-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_ranked [hPre_tokens_ranked : Cert.Pre_tokens_ranked.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_tokens_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_tokens_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_tokens_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_tokens_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_tokens_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_tokens_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_ranked [hPre_tokens_ranked : Cert.Pre_tokens_ranked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_tokens_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_tokens_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_tokens_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_tokens_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_tokens_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_tokens_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_tokens_ranked [hKernelIdeal : Cert.KernelIdeal.Facts] [hPre_tokens_ranked : Cert.Pre_tokens_ranked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_ranked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_tokens_ranked [hReferenceIdeal : Cert.ReferenceIdeal.Facts] [hPre_tokens_ranked : Cert.Pre_tokens_ranked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_ranked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_tokens_ranked [hKernelIdeal : Cert.KernelIdeal.Facts] [hReferenceIdeal : Cert.ReferenceIdeal.Facts] [hPre_tokens_ranked : Cert.Pre_tokens_ranked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_ranked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tokens_ranked : Cert.Pre_tokens_ranked.Facts),
    quiescent_Kernel (hKernel := hKernel)
    ∧ quiescent_KernelIdeal (hKernelIdeal := hKernelIdeal)
    ∧ quiescent_KernelIdeal_pre_tokens_ranked (hKernelIdeal := hKernelIdeal) (hPre_tokens_ranked := hPre_tokens_ranked)
    ∧ quiescent_ReferenceIdeal (hReferenceIdeal := hReferenceIdeal)
    ∧ quiescent_ReferenceIdeal_pre_tokens_ranked (hReferenceIdeal := hReferenceIdeal) (hPre_tokens_ranked := hPre_tokens_ranked)
    ∧ preserves_Kernel_KernelIdeal
    ∧ algebraic_KernelIdeal_ReferenceIdeal_pre_tokens_ranked (hKernelIdeal := hKernelIdeal) (hReferenceIdeal := hReferenceIdeal) (hPre_tokens_ranked := hPre_tokens_ranked)
-- ==== Pre_tokens_ranked.lean ====
abbrev S4096x200 : Shape := ⟨2, ![4096, 200]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S1x128 : Shape := ⟨2, ![1, 128]⟩
abbrev S1x64 : Shape := ⟨2, ![1, 64]⟩
abbrev S1x1 : Shape := ⟨2, ![1, 1]⟩

class Facts : Prop where
  bcast_S_S64 : S_.BroadcastsInDim S64 (![] : Fin 0 → Fin S64.rank)
  bcast_S_S64x64 : S_.BroadcastsInDim S64x64 (![] : Fin 0 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S1x64 : S64x1.ShapeCasts S1x64
  bcast_S_S4096x200 : S_.BroadcastsInDim S4096x200 (![] : Fin 0 → Fin S4096x200.rank)
  dot_S64x64_S64x128_S64x128_1_0_0_1_n_n_wf : DotDims.WF S64x64 S64x128 S64x128 [1] [0] [0] [1] [] []
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts]

def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def fn_part3 {F : FTy → Type} [FloatOps F] (main_arg0 : IVec S4096x200 32) (main_v2 : IVec S64 1) (main_v5 : IVec S64 1) (main_v8 : IVec S64x64 1) (main_v11 : IVec S64 1) (main_v14 : IVec S64x64 1) (main_v57 : IVec S64x64 1) (main_v60 : IVec S64x64 1) : IVec S4096x200 1 × IVec S64 1 × IVec S64 1 × IVec S64x64 1 × IVec S64 1 × IVec S64x64 1 × IVec S64x64 1 :=
  let main_c : IVec S_ 32 := constantI S_ 32 0#32
  let main_v61 : IVec S4096x200 32 := broadcastInDim S4096x200 ![] bcast_S_S4096x200 main_c
  let main_v62 : IVec S4096x200 1 := cmpi .sge main_arg0 main_v61
  let main_c_10 : IVec S_ 32 := constantI S_ 32 64#32
  let main_v63 : IVec S4096x200 32 := broadcastInDim S4096x200 ![] bcast_S_S4096x200 main_c_10
  let main_v64 : IVec S4096x200 1 := cmpi .slt main_arg0 main_v63
  let main_v65 : IVec S4096x200 1 := andi main_v62 main_v64
  let main_v66 : IVec S64x64 1 := noti main_v57
  let main_v67 : IVec S64x64 1 := ori main_v66 main_v60
  (main_v65, main_v2, main_v5, main_v8, main_v11, main_v14, main_v67)

def fn_part2 {F : FTy → Type} [FloatOps F] (main_arg0 : IVec S4096x200 32) (main_arg6 : FVec F S64 .f32) (main_arg7 : FVec F S64 .f32) (main_arg8 : FVec F S64x1 .f32) (main_arg9 : FVec F S1 .f32) (main_v2 : IVec S64 1) (main_v5 : IVec S64 1) (main_v8 : IVec S64x64 1) (main_v11 : IVec S64 1) (main_v14 : IVec S64x64 1) (main_v25 : FVec F S64x64 .f32) (main_v36 : FVec F S64x1 .f32) (main_v37 : FVec F S64x64 .f32) : IVec S4096x200 1 × IVec S64 1 × IVec S64 1 × IVec S64x64 1 × IVec S64 1 × IVec S64x64 1 × IVec S64x64 1 :=
  let main_v38 : FVec F S64x64 .f32 := subf main_v25 main_v37
  let main_cst_9 : FVec F S_ .f32 := constant S_ .f32 0x3727C5AC#32
  let main_v39 : FVec F S64x1 .f32 := broadcastInDim S64x1 ![] bcast_S_S64x1 main_cst_9
  let main_v40 : FVec F S64x1 .f32 := addf main_v36 main_v39
  let main_v41 : FVec F S64x1 .f32 := Host.sqrt main_v40
  let main_v42 : FVec F S64x64 .f32 := broadcastInDim S64x64 ![0, 1] bcast_S64x1_S64x64_0_1 main_v41
  let main_v43 : FVec F S64x64 .f32 := Host.divf main_v38 main_v42
  let main_v44 : FVec F S1x64 .f32 := broadcastInDim S1x64 ![1] bcast_S64_S1x64_1 main_arg6
  let main_v45 : FVec F S64x64 .f32 := broadcastInDim S64x64 ![0, 1] bcast_S1x64_S64x64_0_1 main_v44
  let main_v46 : FVec F S64x64 .f32 := mulf main_v43 main_v45
  let main_v47 : FVec F S1x64 .f32 := broadcastInDim S1x64 ![1] bcast_S64_S1x64_1 main_arg7
  let main_v48 : FVec F S64x64 .f32 := broadcastInDim S64x64 ![0, 1] bcast_S1x64_S64x64_0_1 main_v47
  let main_v49 : FVec F S64x64 .f32 := addf main_v46 main_v48
  let main_v50 : FVec F S64x1 .f32 := (fun l r => Host.dotGeneral dot_S64x64_S64x1_S64x1_1_0_0_1_n_n none l r) main_v49 main_arg8
  let main_v51 : FVec F S1x1 .f32 := broadcastInDim S1x1 ![1] bcast_S1_S1x1_1 main_arg9
  let main_v52 : FVec F S64x1 .f32 := broadcastInDim S64x1 ![0, 1] bcast_S1x1_S64x1_0_1 main_v51
  let main_v53 : FVec F S64x1 .f32 := addf main_v50 main_v52
  let main_v54 : FVec F S1x64 .f32 := shapeCast S1x64 main_v53 shapeCasts_S64x1_S1x64
  let main_v55 : FVec F S64x64 .f32 := broadcastInDim S64x64 ![0, 1] bcast_S64x1_S64x64_0_1 main_v53
  let main_v56 : FVec F S64x64 .f32 := broadcastInDim S64x64 ![0, 1] bcast_S1x64_S64x64_0_1 main_v54
  let main_v57 : IVec S64x64 1 := cmpf .oeq main_v55 main_v56
  let main_v58 : IVec S64x64 32 := iotaInDim S64x64 32 0
  let main_v59 : IVec S64x64 32 := iotaInDim S64x64 32 1
  let main_v60 : IVec S64x64 1 := cmpi .eq main_v58 main_v59
  fn_part3 (F := F) main_arg0 main_v2 main_v5 main_v8 main_v11 main_v14 main_v57 main_v60

def fn_part1 {F : FTy → Type} [FloatOps F] (main_arg0 : IVec S4096x200 32) (main_arg1 : FVec F S64x64 .f32) (main_arg4 : FVec F S128x64 .f32) (main_arg5 : FVec F S64 .f32) (main_arg6 : FVec F S64 .f32) (main_arg7 : FVec F S64 .f32) (main_arg8 : FVec F S64x1 .f32) (main_arg9 : FVec F S1 .f32) (main_v2 : IVec S64 1) (main_v5 : IVec S64 1) (main_v8 : IVec S64x64 1) (main_v11 : IVec S64 1) (main_v14 : IVec S64x64 1) (main_v18 : FVec F S64x128 .f32) : IVec S4096x200 1 × IVec S64 1 × IVec S64 1 × IVec S64x64 1 × IVec S64 1 × IVec S64x64 1 × IVec S64x64 1 :=
  let main_cst_4 : FVec F S_ .f32 := constant S_ .f32 0x00000000#32
  let main_v19 : FVec F S64x128 .f32 := broadcastInDim S64x128 ![] bcast_S_S64x128 main_cst_4
  let main_v20 : FVec F S64x128 .f32 := maximumf main_v18 main_v19
  let main_v21 : FVec F S64x64 .f32 := (fun l r => Host.dotGeneral dot_S64x128_S128x64_S64x64_1_0_0_1_n_n none l r) main_v20 main_arg4
  let main_v22 : FVec F S1x64 .f32 := broadcastInDim S1x64 ![1] bcast_S64_S1x64_1 main_arg5
  let main_v23 : FVec F S64x64 .f32 := broadcastInDim S64x64 ![0, 1] bcast_S1x64_S64x64_0_1 main_v22
  let main_v24 : FVec F S64x64 .f32 := addf main_v21 main_v23
  let main_v25 : FVec F S64x64 .f32 := addf main_arg1 main_v24
  let main_cst_5 : FVec F S_ .f32 := constant S_ .f32 0x00000000#32
  let main_v26 : FVec F S64 .f32 := (fun x v => Host.reduceAdd x v reducesTo_S64x64_S64_d1 h_S_) main_v25 main_cst_5
  let main_v27 : FVec F S64x1 .f32 := broadcastInDim S64x1 ![0] bcast_S64_S64x1_0 main_v26
  let main_cst_6 : FVec F S_ .f32 := constant S_ .f32 0x42800000#32
  let main_v28 : FVec F S64x1 .f32 := broadcastInDim S64x1 ![] bcast_S_S64x1 main_cst_6
  let main_v29 : FVec F S64x1 .f32 := Host.divf main_v27 main_v28
  let main_v30 : FVec F S64x64 .f32 := broadcastInDim S64x64 ![0, 1] bcast_S64x1_S64x64_0_1 main_v29
  let main_v31 : FVec F S64x64 .f32 := subf main_v25 main_v30
  let main_v32 : FVec F S64x64 .f32 := mulf main_v31 main_v31
  let main_cst_7 : FVec F S_ .f32 := constant S_ .f32 0x00000000#32
  let main_v33 : FVec F S64 .f32 := (fun x v => Host.reduceAdd x v reducesTo_S64x64_S64_d1 h_S_) main_v32 main_cst_7
  let main_v34 : FVec F S64x1 .f32 := broadcastInDim S64x1 ![0] bcast_S64_S64x1_0 main_v33
  let main_cst_8 : FVec F S_ .f32 := constant S_ .f32 0x42800000#32
  let main_v35 : FVec F S64x1 .f32 := broadcastInDim S64x1 ![] bcast_S_S64x1 main_cst_8
  let main_v36 : FVec F S64x1 .f32 := Host.divf main_v34 main_v35
  let main_v37 : FVec F S64x64 .f32 := broadcastInDim S64x64 ![0, 1] bcast_S64x1_S64x64_0_1 main_v29
  fn_part2 (F := F) main_arg0 main_arg6 main_arg7 main_arg8 main_arg9 main_v2 main_v5 main_v8 main_v11 main_v14 main_v25 main_v36 main_v37

def fn {F : FTy → Type} [FloatOps F] (main_arg0 : IVec S4096x200 32) (main_arg1 : FVec F S64x64 .f32) (main_arg2 : FVec F S64x128 .f32) (main_arg3 : FVec F S128 .f32) (main_arg4 : FVec F S128x64 .f32) (main_arg5 : FVec F S64 .f32) (main_arg6 : FVec F S64 .f32) (main_arg7 : FVec F S64 .f32) (main_arg8 : FVec F S64x1 .f32) (main_arg9 : FVec F S1 .f32) (main_arg10 : FVec F S64x64 .f32) (main_arg11 : FVec F S64 .f32) (main_arg12 : FVec F S64x64 .f32) (main_arg13 : FVec F S64 .f32) : IVec S4096x200 1 × IVec S64 1 × IVec S64 1 × IVec S64x64 1 × IVec S64 1 × IVec S64x64 1 × IVec S64x64 1 :=
  let main_v0 : FVec F S64 .f32 := Host.absf main_arg6
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg7
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64x64 .f32 := Host.absf main_arg10
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_v9 : FVec F S64 .f32 := Host.absf main_arg11
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64x64 .f32 := Host.absf main_arg12
  let main_cst_3 : FVec F S_ .f32 := constant S_ .f32 0x7F800000#32
  let main_v13 : FVec F S64x64 .f32 := broadcastInDim S64x64 ![] bcast_S_S64x64 main_cst_3
  let main_v14 : IVec S64x64 1 := cmpf .olt main_v12 main_v13
  let main_v15 : FVec F S64x128 .f32 := (fun l r => Host.dotGeneral dot_S64x64_S64x128_S64x128_1_0_0_1_n_n none l r) main_arg1 main_arg2
  let main_v16 : FVec F S1x128 .f32 := broadcastInDim S1x128 ![1] bcast_S128_S1x128_1 main_arg3
  let main_v17 : FVec F S64x128 .f32 := broadcastInDim S64x128 ![0, 1] bcast_S1x128_S64x128_0_1 main_v16
  let main_v18 : FVec F S64x128 .f32 := addf main_v15 main_v17
  fn_part1 (F := F) main_arg0 main_arg1 main_arg4 main_arg5 main_arg6 main_arg7 main_arg8 main_arg9 main_v2 main_v5 main_v8 main_v11 main_v14 main_v18
-- ==== Kernel.lean ====
abbrev S4096x200 : Shape := ⟨2, ![4096, 200]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x128 : Shape := ⟨2, ![1, 128]⟩
abbrev S1x64 : Shape := ⟨2, ![1, 64]⟩
abbrev S1x1 : Shape := ⟨2, ![1, 1]⟩
abbrev S4096x64 : Shape := ⟨2, ![4096, 64]⟩
abbrev S2048x200 : Shape := ⟨2, ![2048, 200]⟩
abbrev S2048x64 : Shape := ⟨2, ![2048, 64]⟩
abbrev S200x2048 : Shape := ⟨2, ![200, 2048]⟩
abbrev S64x200x2048 : Shape := ⟨3, ![64, 200, 2048]⟩
abbrev S1x200x2048 : Shape := ⟨3, ![1, 200, 2048]⟩
abbrev S64x1x200 : Shape := ⟨3, ![64, 1, 200]⟩
abbrev S64x1x2048 : Shape := ⟨3, ![64, 1, 2048]⟩
abbrev S64x2048 : Shape := ⟨2, ![64, 2048]⟩
abbrev S2048x1 : Shape := ⟨2, ![2048, 1]⟩
abbrev S2048 : Shape := ⟨1, ![2048]⟩

abbrev nBuf : Space → Nat
  | .hbm => 22
  | .vmem => 17
  | .smem => 0
  | _ => 0

abbrev bufTy : (tb : Table) → Fin (tcTables nBuf tb) → BufTy
  | .hbm, ⟨0, _⟩ => ⟨S4096x200, .i32⟩
  | .hbm, ⟨1, _⟩ => ⟨S64x64, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x128, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x1, .f32⟩
  | .hbm, ⟨19, _⟩ => ⟨S1x64, .f32⟩
  | .hbm, ⟨20, _⟩ => ⟨S1x64, .f32⟩
  | .hbm, ⟨21, _⟩ => ⟨S4096x64, .f32⟩
  | .local _ .vmem, ⟨0, _⟩ => ⟨S2048x200, .i32⟩
  | .local _ .vmem, ⟨1, _⟩ => ⟨S2048x200, .i32⟩
  | .local _ .vmem, ⟨2, _⟩ => ⟨S64x64, .f32⟩
  | .local _ .vmem, ⟨3, _⟩ => ⟨S64x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S2048x64, .f32⟩
  | .local _ .vmem, ⟨16, _⟩ => ⟨S2048x64, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x200 : Shape := ⟨2, ![4096, 200]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x64 : Shape := ⟨3, ![4096, 200, 64]⟩
abbrev S4096x200x128 : Shape := ⟨3, ![4096, 200, 128]⟩
abbrev S1x1x128 : Shape := ⟨3, ![1, 1, 128]⟩
abbrev S1x1x64 : Shape := ⟨3, ![1, 1, 64]⟩
abbrev S4096x8 : Shape := ⟨2, ![4096, 8]⟩
abbrev S4096x8x1 : Shape := ⟨3, ![4096, 8, 1]⟩
abbrev S4096x8x64 : Shape := ⟨3, ![4096, 8, 64]⟩
abbrev S4096x1x64 : Shape := ⟨3, ![4096, 1, 64]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩

abbrev nBuf : Space → Nat
  | .hbm => 141
  | .vmem => 0
  | .smem => 0
  | _ => 0

abbrev hbmTy0_0 (i : Nat) : BufTy := match i % 128 with
  | 0 => ⟨S4096x200, .i32⟩
  | 1 => ⟨S64x64, .f32⟩
  | 2 => ⟨S64x128, .f32⟩
  | 3 => ⟨S128, .f32⟩
  | 4 => ⟨S128x64, .f32⟩
  | 5 => ⟨S64, .f32⟩
  | 6 => ⟨S64, .f32⟩
  | 7 => ⟨S64, .f32⟩
  | 8 => ⟨S64x1, .f32⟩
  | 9 => ⟨S1, .f32⟩
  | 10 => ⟨S64x64, .f32⟩
  | 11 => ⟨S64, .f32⟩
  | 12 => ⟨S64x64, .f32⟩
  | 13 => ⟨S64, .f32⟩
  | 14 => ⟨S_, .i32⟩
  | 15 => ⟨S4096x200, .i32⟩
  | 16 => ⟨S4096x200, .i1⟩
  | 17 => ⟨S_, .i32⟩
  | 18 => ⟨S4096x200, .i32⟩
  | 19 => ⟨S4096x200, .i32⟩
  | 20 => ⟨S4096x200, .i32⟩
  | 21 => ⟨S4096x200x1, .i32⟩
  | 22 => ⟨S1, .i32⟩
  | 23 => ⟨S_, .i32⟩
  | 24 => ⟨S4096x200x1, .i32⟩
  | 25 => ⟨S4096x200x1, .i1⟩
  | 26 => ⟨S1x1x1, .i32⟩
  | 27 => ⟨S4096x200x1, .i32⟩
  | 28 => ⟨S4096x200x1, .i1⟩
  | 29 => ⟨S4096x200x1, .i1⟩
  | 30 => ⟨S_, .i1⟩
  | 31 => ⟨S4096x200, .i1⟩
  | 32 => ⟨S4096x200x64, .f32⟩
  | 33 => ⟨S4096x200x64, .i1⟩
  | 34 => ⟨S_, .f32⟩
  | 35 => ⟨S4096x200x64, .f32⟩
  | 36 => ⟨S4096x200x64, .f32⟩
  | 37 => ⟨S4096x200x128, .f32⟩
  | 38 => ⟨S1x1x128, .f32⟩
  | 39 => ⟨S4096x200x128, .f32⟩
  | 40 => ⟨S4096x200x128, .f32⟩
  | 41 => ⟨S_, .f32⟩
  | 42 => ⟨S4096x200x128, .f32⟩
  | 43 => ⟨S4096x200x128, .f32⟩
  | 44 => ⟨S4096x200x64, .f32⟩
  | 45 => ⟨S1x1x64, .f32⟩
  | 46 => ⟨S4096x200x64, .f32⟩
  | 47 => ⟨S4096x200x64, .f32⟩
  | 48 => ⟨S4096x200x64, .f32⟩
  | 49 => ⟨S_, .f32⟩
  | 50 => ⟨S4096x200, .f32⟩
  | 51 => ⟨S4096x200x1, .f32⟩
  | 52 => ⟨S_, .f32⟩
  | 53 => ⟨S4096x200x1, .f32⟩
  | 54 => ⟨S4096x200x1, .f32⟩
  | 55 => ⟨S4096x200x64, .f32⟩
  | 56 => ⟨S4096x200x64, .f32⟩
  | 57 => ⟨S4096x200x64, .f32⟩
  | 58 => ⟨S_, .f32⟩
  | 59 => ⟨S4096x200, .f32⟩
  | 60 => ⟨S4096x200x1, .f32⟩
  | 61 => ⟨S_, .f32⟩
  | 62 => ⟨S4096x200x1, .f32⟩
  | 63 => ⟨S4096x200x1, .f32⟩
  | 64 => ⟨S4096x200x64, .f32⟩
  | 65 => ⟨S4096x200x64, .f32⟩
  | 66 => ⟨S_, .f32⟩
  | 67 => ⟨S4096x200x1, .f32⟩
  | 68 => ⟨S4096x200x1, .f32⟩
  | 69 => ⟨S4096x200x1, .f32⟩
  | 70 => ⟨S4096x200x64, .f32⟩
  | 71 => ⟨S4096x200x64, .f32⟩
  | 72 => ⟨S1x1x64, .f32⟩
  | 73 => ⟨S4096x200x64, .f32⟩
  | 74 => ⟨S4096x200x64, .f32⟩
  | 75 => ⟨S1x1x64, .f32⟩
  | 76 => ⟨S4096x200x64, .f32⟩
  | 77 => ⟨S4096x200x64, .f32⟩
  | 78 => ⟨S4096x200x1, .f32⟩
  | 79 => ⟨S1x1x1, .f32⟩
  | 80 => ⟨S4096x200x1, .f32⟩
  | 81 => ⟨S4096x200x1, .f32⟩
  | 82 => ⟨S4096x200, .f32⟩
  | 83 => ⟨S4096x8, .f32⟩
  | 84 => ⟨S4096x8, .i32⟩
  | 85 => ⟨S4096x8x1, .i32⟩
  | 86 => ⟨S_, .i32⟩
  | 87 => ⟨S4096x8x1, .i32⟩
  | 88 => ⟨S4096x8x1, .i1⟩
  | 89 => ⟨S_, .i32⟩
  | 90 => ⟨S4096x8x1, .i32⟩
  | 91 => ⟨S4096x8x1, .i32⟩
  | 92 => ⟨S4096x8x1, .i32⟩
  | 93 => ⟨S1, .i32⟩
  | 94 => ⟨S_, .i32⟩
  | 95 => ⟨S4096x8x1, .i32⟩
  | 96 => ⟨S4096x8x1, .i1⟩
  | 97 => ⟨S1x1x1, .i32⟩
  | 98 => ⟨S4096x8x1, .i32⟩
  | 99 => ⟨S4096x8x1, .i1⟩
  | 100 => ⟨S4096x8x1, .i1⟩
  | 101 => ⟨S_, .i1⟩
  | 102 => ⟨S4096x8, .i1⟩
  | 103 => ⟨S4096x8x64, .f32⟩
  | 104 => ⟨S4096x8x64, .i1⟩
  | 105 => ⟨S_, .f32⟩
  | 106 => ⟨S4096x8x64, .f32⟩
  | 107 => ⟨S4096x8x64, .f32⟩
  | 108 => ⟨S4096x1x64, .f32⟩
  | 109 => ⟨S4096x64, .f32⟩
  | 110 => ⟨S4096x64, .f32⟩
  | 111 => ⟨S1x64, .f32⟩
  | 112 => ⟨S4096x64, .f32⟩
  | 113 => ⟨S4096x64, .f32⟩
  | 114 => ⟨S4096x8, .f32⟩
  | 115 => ⟨S_, .f32⟩
  | 116 => ⟨S4096x8, .f32⟩
  | 117 => ⟨S4096x8, .f32⟩
  | 118 => ⟨S_, .f32⟩
  | 119 => ⟨S4096, .f32⟩
  | 120 => ⟨S_, .f32⟩
  | 121 => ⟨S4096, .f32⟩
  | 122 => ⟨S4096, .f32⟩
  | 123 => ⟨S4096x1, .f32⟩
  | 124 => ⟨S4096x8, .f32⟩
  | 125 => ⟨S4096x8, .f32⟩
  | 126 => ⟨S4096x8, .f32⟩
  | 127 => ⟨S_, .f32⟩
  | _ => ⟨S4096x200, .i32⟩

abbrev hbmTy0_1 (i : Nat) : BufTy := match i % 128 with
  | 0 => ⟨S4096, .f32⟩
  | 1 => ⟨S4096x1, .f32⟩
  | 2 => ⟨S4096x8, .f32⟩
  | 3 => ⟨S4096x8, .f32⟩
  | 4 => ⟨S4096x8x1, .f32⟩
  | 5 => ⟨S4096x8x64, .f32⟩
  | 6 => ⟨S4096x8x64, .f32⟩
  | 7 => ⟨S_, .f32⟩
  | 8 => ⟨S4096x64, .f32⟩
  | 9 => ⟨S4096x64, .f32⟩
  | 10 => ⟨S1x64, .f32⟩
  | 11 => ⟨S4096x64, .f32⟩
  | 12 => ⟨S4096x64, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_0 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_2 : Ref sig .tc := ⟨.hbm, 58, rfl⟩
abbrev main_v19 : Ref sig .tc := ⟨.hbm, 59, rfl⟩
abbrev main_v20 : Ref sig .tc := ⟨.hbm, 60, rfl⟩
abbrev main_cst_3 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_4 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_values : Ref sig .tc := ⟨.hbm, 83, rfl⟩
abbrev main_indices : Ref sig .tc := ⟨.hbm, 84, rfl⟩
abbrev main_v41 : Ref sig .tc := ⟨.hbm, 85, rfl⟩
abbrev main_call1_c : Ref sig .tc := ⟨.hbm, 86, rfl⟩
abbrev main_call1_v0 : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_c_1 : Ref sig .tc := ⟨.hbm, 93, rfl⟩
abbrev main_call1_c_2 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_c_3 : Ref sig .tc := ⟨.hbm, 101, rfl⟩
abbrev main_call1_v11 : Ref sig .tc := ⟨.hbm, 102, rfl⟩
abbrev main_call1_v12 : Ref sig .tc := ⟨.hbm, 103, rfl⟩
abbrev main_call1_v13 : Ref sig .tc := ⟨.hbm, 104, rfl⟩
abbrev main_call1_cst : Ref sig .tc := ⟨.hbm, 105, rfl⟩
abbrev main_call1_v14 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_cst_5 : Ref sig .tc := ⟨.hbm, 115, rfl⟩
abbrev main_v50 : Ref sig .tc := ⟨.hbm, 116, rfl⟩
abbrev main_v51 : Ref sig .tc := ⟨.hbm, 117, rfl⟩
abbrev main_cst_6 : Ref sig .tc := ⟨.hbm, 118, rfl⟩
abbrev main_v52 : Ref sig .tc := ⟨.hbm, 119, rfl⟩
abbrev main_cst_7 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_cst_8 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_cst_9 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩

abbrev nD : Nat := 1
abbrev τ : Topo := Topo.v7x

variable {F : FTy → Type} [FloatOps F]
-- ==== Proof.Spec.lean ====
/- The mathematics of the two programs over the extended reals, on plain functions of coordinates. `state` is the token
   state (feed-forward residual, then layer normalisation); `byPosition` is the reference's answer for one row, a softmax
   over the eight positions with the greatest gate scores; `byToken` is the kernel's, a softmax over the vocabulary weighted
   by how often each token is among the eight. -/
module

public import Idealize.ShloMosaic.PureOps.Ideal

@[expose] public section

noncomputable section

namespace Cert.Ranked

open Idealize.ShloMosaic

/-- The state width as the programs write it, the word of 64. -/
def width : EReal := Ideal.ofBits .f32 0x42800000#32

/-- The variance offset, the word the programs write for 1e-5. -/
def offset : EReal := Ideal.ofBits .f32 0x3727C5AC#32

/-- The number of memory slots, the word of 8; it is also the square root of the state width. -/
def slots : EReal := Ideal.ofBits .f32 0x41000000#32

/-- The logit scale of the kernel, the word of 1/8. -/
def eighth : EReal := Ideal.ofBits .f32 0x3E000000#32

/-- The kernel's mask for logits of tokens not taken, the word of -1e30. -/
def masked : EReal := Ideal.ofBits .f32 0xF149F2CA#32

/-- The mean of a row of 64. -/
def mean (x : Fin 64 → EReal) : EReal := Ideal.div (∑ h, x h) width

/-- The variance of a row of 64. -/
def variance (x : Fin 64 → EReal) : EReal := Ideal.div (∑ h, (x h - mean x) * (x h - mean x)) width

/-- A row of 64, normalised. -/
def unit (x : Fin 64 → EReal) (h : Fin 64) : EReal := Ideal.div (x h - mean x) (Ideal.sqrt (variance x + offset))

/-- An embedding row plus its two-layer feed-forward image. -/
def resid (W1 : Fin 64 → Fin 128 → EReal) (b1 : Fin 128 → EReal) (W2 : Fin 128 → Fin 64 → EReal) (b2 : Fin 64 → EReal)
    (e : Fin 64 → EReal) (h : Fin 64) : EReal :=
  e h + ((∑ j, max ((∑ i, e i * W1 i j) + b1 j) 0 * W2 j h) + b2 h)

/-- The state of a token with embedding row `e`. -/
def state (W1 : Fin 64 → Fin 128 → EReal) (b1 : Fin 128 → EReal) (W2 : Fin 128 → Fin 64 → EReal)
    (b2 ga be e : Fin 64 → EReal) (h : Fin 64) : EReal :=
  unit (resid W1 b1 W2 b2 e) h * ga h + be h

/-- The gate score of a state. -/
def score (wg : Fin 64 → EReal) (bg : EReal) (s : Fin 64 → EReal) : EReal := (∑ h, s h * wg h) + bg

/-- The query of a state. -/
def query (Wq : Fin 64 → Fin 64 → EReal) (bq : Fin 64 → EReal) (s : Fin 64 → EReal) (j : Fin 64) : EReal :=
  (∑ h, s h * Wq h j) + bq j

/-- The greatest of finitely many values. -/
def peak {n : Nat} (f : Fin n → EReal) : EReal := Finset.univ.fold max ⊥ f

/-- How often the token `v` occurs in a row. -/
def count (tok : Fin 200 → Fin 64) (v : Fin 64) : EReal := ∑ l, if tok l = v then 1 else 0

/-- How many positions of a row carry a token with a greater score than `v`. -/
def larger (sc : Fin 64 → EReal) (tok : Fin 200 → Fin 64) (v : Fin 64) : EReal :=
  ∑ u, count tok u * (if sc v < sc u then 1 else 0)

/-- How many of the eight slots the token `v` fills. -/
def taken (sc : Fin 64 → EReal) (tok : Fin 200 → Fin 64) (v : Fin 64) : EReal :=
  min (max (slots - larger sc tok v) 0) (count tok v)

/-- The kernel's logit of the state `s` against the query `q`. -/
def tokenLogit (q s : Fin 64 → EReal) : EReal := (∑ h, s h * q h) * eighth

/-- The kernel's softmax numerator of a token filling `n` slots with logit `x`, at shift `m`. -/
def weight (n x m : EReal) : EReal := if 0 < n then n * Ideal.exp (x - m) else 0

/-- The kernel's answer at a row with tokens `tok` and a vocabulary of states `s`, scores `sc`, and query `q`: output `o`. -/
def byToken (s : Fin 64 → Fin 64 → EReal) (sc : Fin 64 → EReal) (q : Fin 64 → EReal) (Wo : Fin 64 → Fin 64 → EReal)
    (bo : Fin 64 → EReal) (tok : Fin 200 → Fin 64) (o : Fin 64) : EReal :=
  (∑ v, Ideal.div
      (weight (taken sc tok v) (tokenLogit q (s v))
        (peak fun u => if 0 < taken sc tok u then tokenLogit q (s u) else masked))
      (∑ w, weight (taken sc tok w) (tokenLogit q (s w))
        (peak fun u => if 0 < taken sc tok u then tokenLogit q (s u) else masked))
    * ∑ h, s v h * Wo h o) + bo o

/-- The reference's logit of the state `s` against the query `q`. -/
def positionLogit (q s : Fin 64 → EReal) : EReal := Ideal.div (∑ h, s h * q h) slots

/-- The reference's answer from the eight states `r` it kept and the query `q`: output `o`. -/
def byPosition (r : Fin 8 → Fin 64 → EReal) (q : Fin 64 → EReal) (Wo : Fin 64 → Fin 64 → EReal)
    (bo : Fin 64 → EReal) (o : Fin 64) : EReal :=
  (∑ h, (∑ k, Ideal.div (Ideal.exp (positionLogit q (r k) - peak fun i => positionLogit q (r i)))
      (∑ k', Ideal.exp (positionLogit q (r k') - peak fun i => positionLogit q (r i))) * r k h) * Wo h o) + bo o

end Cert.Ranked
-- ==== Proof.Answer.lean ====
/- The two programs' arguments read as the specification's weights: the vocabulary's states, and the answer by tokens. -/
module

public import proofs.«01_k».proof.Proof.Spec
public import Idealize.ShloMosaic.Lib.Pointwise

@[expose] public section

noncomputable section

namespace Cert.Ranked

open Idealize.ShloMosaic

/-- The word of negative infinity. -/
theorem ofBits_neg_inf : Ideal.ofBits .f32 0xFF800000#32 = ⊥ := by
  simp [Ideal.ofBits, Ideal.ieee]

/-- The programs' weights, as arrays in the order of their arguments: embedding, the two layers, the normalisation's scale and
    offset, the gate, the query, the read-out. -/
structure Weights where
  embed : FVec Ideal ⟨2, ![64, 64]⟩ .f32
  W1 : FVec Ideal ⟨2, ![64, 128]⟩ .f32
  b1 : FVec Ideal ⟨1, ![128]⟩ .f32
  W2 : FVec Ideal ⟨2, ![128, 64]⟩ .f32
  b2 : FVec Ideal ⟨1, ![64]⟩ .f32
  gamma : FVec Ideal ⟨1, ![64]⟩ .f32
  beta : FVec Ideal ⟨1, ![64]⟩ .f32
  Wg : FVec Ideal ⟨2, ![64, 1]⟩ .f32
  bg : FVec Ideal ⟨1, ![1]⟩ .f32
  Wq : FVec Ideal ⟨2, ![64, 64]⟩ .f32
  bq : FVec Ideal ⟨1, ![64]⟩ .f32
  Wo : FVec Ideal ⟨2, ![64, 64]⟩ .f32
  bo : FVec Ideal ⟨1, ![64]⟩ .f32

namespace Weights

variable (w : Weights)

/-- The state of token `v`. -/
def vocab (v : Fin 64) : Fin 64 → EReal :=
  state (fun i j => w.W1 (ix2 i j)) (fun j => w.b1 (ix1 j)) (fun j h => w.W2 (ix2 j h)) (fun h => w.b2 (ix1 h))
    (fun h => w.gamma (ix1 h)) (fun h => w.beta (ix1 h)) (fun i => w.embed (ix2 v i))

/-- The gate score of token `v`. -/
def gate (v : Fin 64) : EReal := score (fun h => w.Wg (ix2 h 0)) (w.bg (ix1 0)) (w.vocab v)

/-- The query of token `v`. -/
def ask (v : Fin 64) : Fin 64 → EReal := query (fun h j => w.Wq (ix2 h j)) (fun j => w.bq (ix1 j)) (w.vocab v)

/-- The read-out matrix. -/
def readOut (h o : Fin 64) : EReal := w.Wo (ix2 h o)

/-- The read-out's offset. -/
def readOffset (o : Fin 64) : EReal := w.bo (ix1 o)

/-- The answer for a row of tokens: eight slots given to tokens by rank. -/
def answer (tok : Fin 200 → Fin 64) (o : Fin 64) : EReal :=
  byToken w.vocab w.gate (w.ask (tok 199)) w.readOut w.readOffset tok o

end Weights

end Cert.Ranked
-- ==== Proof.PayState.lean ====
/- The kernel's first block of values read at a coordinate: the vocabulary's states, scores, logits and read-outs are the
   specification's. -/
module

public import proofs.«01_k».proof.Proof.Gen.KernelIdeal.Skeleton
public import proofs.«01_k».proof.Proof.Answer
public import Idealize.ShloMosaic.Lib.Pointwise

@[expose] public section

noncomputable section

namespace Cert.KernelIdeal.Read

open Cert.KernelIdeal Cert.KernelIdeal.Gen Idealize.ShloMosaic Cert.Ranked

/-- A truth value read as a number: the bit widened to a word, converted. -/
theorem indicator_bool (p : Bool) :
    (FloatOps.sitofp (F := Ideal) .f32 (BitVec.setWidth 32 (BitVec.ofBool p)) : EReal) = if p = true then 1 else 0 := by
  cases p
  · simp [FloatOps.sitofp]
  · simp [FloatOps.sitofp]

/-- An equality of words read as a number. -/
theorem indicator_eq (x y : BitVec 32) :
    (FloatOps.sitofp (F := Ideal) .f32 (BitVec.setWidth 32 (IntOp.cmpi .eq x y)) : EReal) = if x = y then 1 else 0 := by
  rw [show IntOp.cmpi .eq x y = BitVec.ofBool (x == y) from rfl, indicator_bool]
  simp only [beq_iff_eq]

/-- The normalised residual times the scale, at token `v` and coordinate `h`. -/
theorem pay2_apply (x1 : FVec Ideal S64x64 .f32) (x2 : FVec Ideal S64x128 .f32) (x3 : FVec Ideal S1x128 .f32)
    (x4 : FVec Ideal S128x64 .f32) (x5 x6 : FVec Ideal S1x64 .f32) (v h : Fin 64) :
    k0_pay2 (F := Ideal) x1 x2 x3 x4 x5 x6 (ix2 v h)
      = unit (resid (fun i j => x2 (ix2 i j)) (fun j => x3 (ix2 0 j)) (fun j h => x4 (ix2 j h)) (fun h => x5 (ix2 0 h))
          (fun i => x1 (ix2 v i))) h * x6 (ix2 0 h) := by
  pointwise [k0_pay2]
  rfl

/-- The state of token `v` at coordinate `h`. -/
theorem pay3_apply (y : FVec Ideal S64x64 .f32) (x7 : FVec Ideal S1x64 .f32) (v h : Fin 64) :
    k0_pay3 y x7 (ix2 v h) = y (ix2 v h) + x7 (ix2 0 h) := by
  pointwise [k0_pay3]

/-- The scaled logit of token `v` against the query of token `u`. -/
theorem pay4_apply (y : FVec Ideal S64x64 .f32) (x7 : FVec Ideal S1x64 .f32) (x10 : FVec Ideal S64x64 .f32)
    (x11 : FVec Ideal S1x64 .f32) (v u : Fin 64) :
    k0_pay4 y x7 x10 x11 (ix2 v u)
      = tokenLogit (query (fun h j => x10 (ix2 h j)) (fun j => x11 (ix2 0 j)) (fun h => k0_pay3 y x7 (ix2 u h)))
          (fun h => k0_pay3 y x7 (ix2 v h)) := by
  pointwise [k0_pay4]
  rfl

/-- The read-out of token `v` at output `o`. -/
theorem pay5_apply (y : FVec Ideal S64x64 .f32) (x7 : FVec Ideal S1x64 .f32) (x12 : FVec Ideal S64x64 .f32) (v o : Fin 64) :
    k0_pay5 y x7 x12 (ix2 v o) = ∑ h, k0_pay3 y x7 (ix2 v h) * x12 (ix2 h o) := by
  pointwise [k0_pay5]

/-- Whether token `u` outranks token `v`, as 1 or 0. -/
theorem pay6_apply (y : FVec Ideal S64x64 .f32) (x7 : FVec Ideal S1x64 .f32) (x8 : FVec Ideal S64x1 .f32)
    (x9 : FVec Ideal S1x1 .f32) (u v : Fin 64) :
    k0_pay6 y x7 x8 x9 (ix2 u v)
      = if score (fun h => x8 (ix2 h 0)) (x9 (ix2 0 0)) (fun h => k0_pay3 y x7 (ix2 v h))
          < score (fun h => x8 (ix2 h 0)) (x9 (ix2 0 0)) (fun h => k0_pay3 y x7 (ix2 u h)) then 1 else 0 := by
  pointwise [k0_pay6]
  rw [indicator_bool]
  simp only [decide_eq_true_eq]
  rfl

/-- How often token `v` occurs in row `b` of a block, as a sum over the row's positions. -/
theorem pay7_apply (x0 : IVec S2048x200 32) (b : Fin 2048) (v : Fin 64) :
    k0_pay7 (F := Ideal) x0 (ix2 b v) = ∑ l : Fin 200, if x0 (ix2 b l) = BitVec.ofNat 32 v.val then 1 else 0 := by
  pointwise [k0_pay7]
  simp only [indicator_eq]

/-- Two words of tokens are equal exactly when the tokens are. -/
theorem word_eq_iff (i j : Fin 64) : BitVec.ofNat 32 i.val = BitVec.ofNat 32 j.val ↔ i = j := by
  constructor
  · intro h
    have h1 := congrArg BitVec.toNat h
    simp only [BitVec.toNat_ofNat] at h1
    have := i.isLt
    have := j.isLt
    exact Fin.ext (by omega)
  · rintro rfl
    rfl

/-- A sum that picks the entry of one token. -/
theorem sum_pick (t : Fin 64) (f : Fin 64 → EReal) : (∑ u, (if t = u then 1 else 0) * f u) = f t := by
  rw [Finset.sum_eq_single t]
  · rw [if_pos rfl, one_mul]
  · intro u _ hu
    rw [if_neg (Ne.symm hu), zero_mul]
  · intro h
    exact absurd (Finset.mem_univ t) h

/-- The kernel's last block of values at row `b` and output `o`, for a row with tokens `tok`: from the histogram, the ranks, the
    logits and the read-outs it is the specification's answer by tokens. -/
theorem pay1_apply (lt ot g : FVec Ideal S64x64 .f32) (x0 : IVec S2048x200 32) (cnt : FVec Ideal S2048x64 .f32)
    (x13 : FVec Ideal S1x64 .f32) (b : Fin 2048) (o : Fin 64) (tok : Fin 200 → Fin 64) (s : Fin 64 → Fin 64 → EReal)
    (sc : Fin 64 → EReal) (Q : Fin 64 → Fin 64 → EReal) (Wo : Fin 64 → Fin 64 → EReal)
    (hx : ∀ l, x0 (ix2 b l) = BitVec.ofNat 32 (tok l).val)
    (hcnt : ∀ v, cnt (ix2 b v) = count tok v)
    (hg : ∀ u v, g (ix2 u v) = if sc v < sc u then 1 else 0)
    (hlt : ∀ v u, lt (ix2 v u) = tokenLogit (Q u) (s v))
    (hot : ∀ v, ot (ix2 v o) = ∑ h, s v h * Wo h o) :
    k0_pay1 lt ot g x0 cnt (constant S2048x64 .f32 0x00000000#32) x13 (ix2 b o)
      = byToken s sc (Q (tok 199)) Wo (fun o => x13 (ix2 0 o)) tok o := by
  pointwise [k0_pay1]
  simp only [indicator_eq, hx, word_eq_iff, sum_pick, hcnt, hg, hlt, hot, ofBits_neg_inf]
  rfl

/-- The histogram of a row with tokens `tok`. -/
theorem pay7_count (x0 : IVec S2048x200 32) (b : Fin 2048) (v : Fin 64) (tok : Fin 200 → Fin 64)
    (hx : ∀ l, x0 (ix2 b l) = BitVec.ofNat 32 (tok l).val) : k0_pay7 (F := Ideal) x0 (ix2 b v) = count tok v := by
  rw [pay7_apply]
  simp only [hx, word_eq_iff]
  rfl

/-- The vocabulary of states that a set of weights gives, as the kernel's windows hold them. -/
def states (x1 : FVec Ideal S64x64 .f32) (x2 : FVec Ideal S64x128 .f32) (x3 : FVec Ideal S1x128 .f32)
    (x4 : FVec Ideal S128x64 .f32) (x5 x6 x7 : FVec Ideal S1x64 .f32) (v : Fin 64) : Fin 64 → EReal :=
  state (fun i j => x2 (ix2 i j)) (fun j => x3 (ix2 0 j)) (fun j h => x4 (ix2 j h)) (fun h => x5 (ix2 0 h))
    (fun h => x6 (ix2 0 h)) (fun h => x7 (ix2 0 h)) (fun i => x1 (ix2 v i))

/-- The state the kernel forms is that vocabulary's. -/
theorem pay3_pay2 (x1 : FVec Ideal S64x64 .f32) (x2 : FVec Ideal S64x128 .f32) (x3 : FVec Ideal S1x128 .f32)
    (x4 : FVec Ideal S128x64 .f32) (x5 x6 x7 : FVec Ideal S1x64 .f32) (v h : Fin 64) :
    k0_pay3 (k0_pay2 (F := Ideal) x1 x2 x3 x4 x5 x6) x7 (ix2 v h) = states x1 x2 x3 x4 x5 x6 x7 v h := by
  rw [pay3_apply, pay2_apply]
  rfl

/-- THE KERNEL'S BLOCK at row `b` and output `o`, from the blocks its windows hold, for a row with tokens `tok`. -/
theorem block_apply (x0 : IVec S2048x200 32) (x1 : FVec Ideal S64x64 .f32) (x2 : FVec Ideal S64x128 .f32)
    (x3 : FVec Ideal S1x128 .f32) (x4 : FVec Ideal S128x64 .f32) (x5 x6 x7 : FVec Ideal S1x64 .f32)
    (x8 : FVec Ideal S64x1 .f32) (x9 : FVec Ideal S1x1 .f32) (x10 : FVec Ideal S64x64 .f32) (x11 : FVec Ideal S1x64 .f32)
    (x12 : FVec Ideal S64x64 .f32) (x13 : FVec Ideal S1x64 .f32) (b : Fin 2048) (o : Fin 64) (tok : Fin 200 → Fin 64)
    (hx : ∀ l, x0 (ix2 b l) = BitVec.ofNat 32 (tok l).val) :
    k0_pay1 (k0_pay4 (k0_pay2 (F := Ideal) x1 x2 x3 x4 x5 x6) x7 x10 x11) (k0_pay5 (k0_pay2 x1 x2 x3 x4 x5 x6) x7 x12)
        (k0_pay6 (k0_pay2 x1 x2 x3 x4 x5 x6) x7 x8 x9) x0 (k0_pay7 x0) (constant S2048x64 .f32 0x00000000#32) x13 (ix2 b o)
      = byToken (states x1 x2 x3 x4 x5 x6 x7)
          (fun v => score (fun h => x8 (ix2 h 0)) (x9 (ix2 0 0)) (states x1 x2 x3 x4 x5 x6 x7 v))
          (query (fun h j => x10 (ix2 h j)) (fun j => x11 (ix2 0 j)) (states x1 x2 x3 x4 x5 x6 x7 (tok 199)))
          (fun h o => x12 (ix2 h o)) (fun o => x13 (ix2 0 o)) tok o :=
  pay1_apply _ _ _ x0 _ x13 b o tok (states x1 x2 x3 x4 x5 x6 x7) _
    (fun u => query (fun h j => x10 (ix2 h j)) (fun j => x11 (ix2 0 j)) (states x1 x2 x3 x4 x5 x6 x7 u)) _ hx
    (fun v => pay7_count x0 b v tok hx)
    (fun u v => by rw [pay6_apply]; simp only [pay3_pay2])
    (fun v u => by rw [pay4_apply]; simp only [pay3_pay2])
    (fun v => by rw [pay5_apply]; simp only [pay3_pay2])

end Cert.KernelIdeal.Read
-- ==== Proof.KernelValue.lean ====
/- The kernel's result array after the run, at a row and an output: the specification's answer by tokens. -/
module

public import proofs.«01_k».proof.Proof.Gen.KernelIdeal.Value
public import proofs.«01_k».proof.Proof.PayState
public import Idealize.ShloMosaic.Lib.StableHlo.ReadAt

@[expose] public section

noncomputable section

namespace Cert.KernelIdeal.Read

open Cert.KernelIdeal Cert.KernelIdeal.Gen Idealize.ShloMosaic Idealize.ShloMosaic.TcCoe Cert.Ranked

variable (m : (ℓ : Loc nD τ sig) → Buf (Elt Ideal) ℓ)

/-- The two zero offsets of a whole-buffer rectangle. -/
theorem zeros2 : (![0, 0] : Fin 2 → Nat) = fun _ => 0 := funext fun a => by fin_cases a <;> rfl

/-- The body leaves, at row `b` and output `o` of the output's staging buffer, the answer by tokens. -/
theorem out_apply (x0 : IVec S2048x200 32) (x1 : FVec Ideal S64x64 .f32) (x2 : FVec Ideal S64x128 .f32)
    (x3 : FVec Ideal S1x128 .f32) (x4 : FVec Ideal S128x64 .f32) (x5 x6 x7 : FVec Ideal S1x64 .f32)
    (x8 : FVec Ideal S64x1 .f32) (x9 : FVec Ideal S1x1 .f32) (x10 : FVec Ideal S64x64 .f32) (x11 : FVec Ideal S1x64 .f32)
    (x12 : FVec Ideal S64x64 .f32) (x13 : FVec Ideal S1x64 .f32) (b : Fin 2048) (o : Fin 64) (tok : Fin 200 → Fin 64)
    (hx : ∀ l, x0 (ix2 b l) = BitVec.ofNat 32 (tok l).val) :
    out0_14 (F := Ideal) x0 x1 x2 x3 x4 x5 x6 x7 x8 x9 x10 x11 x12 x13 (ix2 b o)
      = byToken (states x1 x2 x3 x4 x5 x6 x7)
          (fun v => score (fun h => x8 (ix2 h 0)) (x9 (ix2 0 0)) (states x1 x2 x3 x4 x5 x6 x7 v))
          (query (fun h j => x10 (ix2 h j)) (fun j => x11 (ix2 0 j)) (states x1 x2 x3 x4 x5 x6 x7 (tok 199)))
          (fun h o => x12 (ix2 h o)) (fun o => x13 (ix2 0 o)) tok o := by
  unfold out0_14 k0_pay8
  rw [View.canon_unit_zero (S := S2048x64) zeros2]
  rw [View.ld_unit_zero (S := S2048x200) zeros2, View.ld_unit_zero (S := S64x64) zeros2, View.ld_unit_zero (S := S64x128) zeros2,
    View.ld_unit_zero (S := S1x128) zeros2, View.ld_unit_zero (S := S128x64) zeros2, View.ld_unit_zero (S := S1x64) zeros2,
    View.ld_unit_zero (S := S1x64) zeros2, View.ld_unit_zero (S := S1x64) zeros2, View.ld_unit_zero (S := S64x64) zeros2,
    View.ld_unit_zero (S := S1x64) zeros2, View.ld_unit_zero (S := S64x64) zeros2, View.ld_unit_zero (S := S64x1) zeros2,
    View.ld_unit_zero (S := S1x1) zeros2, View.ld_unit_zero (S := S1x64) zeros2]
  exact block_apply x0 x1 x2 x3 x4 x5 x6 x7 x8 x9 x10 x11 x12 x13 b o tok hx

/-- What window 1 holds at every point: argument 1. -/
theorem iblk_1 (c : Dev nD) (t : Fin cfg0.N) : iblk m c 1 t = m ((c : Thread nD τ).loc main_arg1) := by
  have hz : (fun a => (win0_1.index t) a * main_arg1.ty.shape.size a) = fun _ => 0 := funext fun a => by
    fin_cases a <;> exact Nat.zero_mul _
  exact (Memref.read_access_unit_zero (Elt Ideal) main_arg1 hz (fun a => by rw [congrFun hz a]; simp) _).trans (V_main_arg1 m c)

/-- What window 2 holds at every point: argument 2. -/
theorem iblk_2 (c : Dev nD) (t : Fin cfg0.N) : iblk m c 2 t = m ((c : Thread nD τ).loc main_arg2) := by
  have hz : (fun a => (win0_2.index t) a * main_arg2.ty.shape.size a) = fun _ => 0 := funext fun a => by
    fin_cases a <;> exact Nat.zero_mul _
  exact (Memref.read_access_unit_zero (Elt Ideal) main_arg2 hz (fun a => by rw [congrFun hz a]; simp) _).trans (V_main_arg2 m c)

/-- What window 4 holds at every point: argument 4. -/
theorem iblk_4 (c : Dev nD) (t : Fin cfg0.N) : iblk m c 4 t = m ((c : Thread nD τ).loc main_arg4) := by
  have hz : (fun a => (win0_4.index t) a * main_arg4.ty.shape.size a) = fun _ => 0 := funext fun a => by
    fin_cases a <;> exact Nat.zero_mul _
  exact (Memref.read_access_unit_zero (Elt Ideal) main_arg4 hz (fun a => by rw [congrFun hz a]; simp) _).trans (V_main_arg4 m c)

/-- What window 8 holds at every point: argument 8. -/
theorem iblk_8 (c : Dev nD) (t : Fin cfg0.N) : iblk m c 8 t = m ((c : Thread nD τ).loc main_arg8) := by
  have hz : (fun a => (win0_8.index t) a * main_arg8.ty.shape.size a) = fun _ => 0 := funext fun a => by
    fin_cases a <;> exact Nat.zero_mul _
  exact (Memref.read_access_unit_zero (Elt Ideal) main_arg8 hz (fun a => by rw [congrFun hz a]; simp) _).trans (V_main_arg8 m c)

/-- What window 10 holds at every point: argument 10. -/
theorem iblk_10 (c : Dev nD) (t : Fin cfg0.N) : iblk m c 10 t = m ((c : Thread nD τ).loc main_arg10) := by
  have hz : (fun a => (win0_10.index t) a * main_arg10.ty.shape.size a) = fun _ => 0 := funext fun a => by
    fin_cases a <;> exact Nat.zero_mul _
  exact (Memref.read_access_unit_zero (Elt Ideal) main_arg10 hz (fun a => by rw [congrFun hz a]; simp) _).trans (V_main_arg10 m c)

/-- What window 12 holds at every point: argument 12. -/
theorem iblk_12 (c : Dev nD) (t : Fin cfg0.N) : iblk m c 12 t = m ((c : Thread nD τ).loc main_arg12) := by
  have hz : (fun a => (win0_12.index t) a * main_arg12.ty.shape.size a) = fun _ => 0 := funext fun a => by
    fin_cases a <;> exact Nat.zero_mul _
  exact (Memref.read_access_unit_zero (Elt Ideal) main_arg12 hz (fun a => by rw [congrFun hz a]; simp) _).trans (V_main_arg12 m c)

/-- What window 3 holds at every point: argument 3 as one row. -/
theorem iblk_3 (c : Dev nD) (t : Fin cfg0.N) (j : Fin 128) :
    (iblk m c 3 t : FVec Ideal S1x128 .f32) (ix2 0 j) = (m ((c : Thread nD τ).loc main_arg3) : FVec Ideal S128 .f32) (ix1 j) := by
  have hz : (fun a => (win0_3.index t) a * main_call0_v0.ty.shape.size a) = fun _ => 0 := funext fun a => by
    fin_cases a <;> exact Nat.zero_mul _
  have h := Memref.read_access_unit_zero (Elt Ideal) main_call0_v0 hz (fun a => by rw [congrFun hz a]; simp)
    (V m c main_call0_v0)
  refine (congrFun h (ix2 0 j)).trans ?_
  unfold V
  after_reads_at

/-- What window 5 holds at every point: argument 5 as one row. -/
theorem iblk_5 (c : Dev nD) (t : Fin cfg0.N) (j : Fin 64) :
    (iblk m c 5 t : FVec Ideal S1x64 .f32) (ix2 0 j) = (m ((c : Thread nD τ).loc main_arg5) : FVec Ideal S64 .f32) (ix1 j) := by
  have hz : (fun a => (win0_5.index t) a * main_call0_v1.ty.shape.size a) = fun _ => 0 := funext fun a => by
    fin_cases a <;> exact Nat.zero_mul _
  have h := Memref.read_access_unit_zero (Elt Ideal) main_call0_v1 hz (fun a => by rw [congrFun hz a]; simp)
    (V m c main_call0_v1)
  refine (congrFun h (ix2 0 j)).trans ?_
  unfold V
  after_reads_at

/-- What window 6 holds at every point: argument 6 as one row. -/
theorem iblk_6 (c : Dev nD) (t : Fin cfg0.N) (j : Fin 64) :
    (iblk m c 6 t : FVec Ideal S1x64 .f32) (ix2 0 j) = (m ((c : Thread nD τ).loc main_arg6) : FVec Ideal S64 .f32) (ix1 j) := by
  have hz : (fun a => (win0_6.index t) a * main_call0_v2.ty.shape.size a) = fun _ => 0 := funext fun a => by
    fin_cases a <;> exact Nat.zero_mul _
  have h := Memref.read_access_unit_zero (Elt Ideal) main_call0_v2 hz (fun a => by rw [congrFun hz a]; simp)
    (V m c main_call0_v2)
  refine (congrFun h (ix2 0 j)).trans ?_
  unfold V
  after_reads_at

/-- What window 7 holds at every point: argument 7 as one row. -/
theorem iblk_7 (c : Dev nD) (t : Fin cfg0.N) (j : Fin 64) :
    (iblk m c 7 t : FVec Ideal S1x64 .f32) (ix2 0 j) = (m ((c : Thread nD τ).loc main_arg7) : FVec Ideal S64 .f32) (ix1 j) := by
  have hz : (fun a => (win0_7.index t) a * main_call0_v3.ty.shape.size a) = fun _ => 0 := funext fun a => by
    fin_cases a <;> exact Nat.zero_mul _
  have h := Memref.read_access_unit_zero (Elt Ideal) main_call0_v3 hz (fun a => by rw [congrFun hz a]; simp)
    (V m c main_call0_v3)
  refine (congrFun h (ix2 0 j)).trans ?_
  unfold V
  after_reads_at

/-- What window 9 holds at every point: argument 9 as one row. -/
theorem iblk_9 (c : Dev nD) (t : Fin cfg0.N) (j : Fin 1) :
    (iblk m c 9 t : FVec Ideal S1x1 .f32) (ix2 0 j) = (m ((c : Thread nD τ).loc main_arg9) : FVec Ideal S1 .f32) (ix1 j) := by
  obtain rfl : j = 0 := Subsingleton.elim j 0
  have hz : (fun a => (win0_9.index t) a * main_call0_v4.ty.shape.size a) = fun _ => 0 := funext fun a => by
    fin_cases a <;> exact Nat.zero_mul _
  have h := Memref.read_access_unit_zero (Elt Ideal) main_call0_v4 hz (fun a => by rw [congrFun hz a]; simp)
    (V m c main_call0_v4)
  refine (congrFun h (ix2 0 0)).trans ?_
  unfold V
  after_reads_at

/-- What window 11 holds at every point: argument 11 as one row. -/
theorem iblk_11 (c : Dev nD) (t : Fin cfg0.N) (j : Fin 64) :
    (iblk m c 11 t : FVec Ideal S1x64 .f32) (ix2 0 j) = (m ((c : Thread nD τ).loc main_arg11) : FVec Ideal S64 .f32) (ix1 j) := by
  have hz : (fun a => (win0_11.index t) a * main_call0_v5.ty.shape.size a) = fun _ => 0 := funext fun a => by
    fin_cases a <;> exact Nat.zero_mul _
  have h := Memref.read_access_unit_zero (Elt Ideal) main_call0_v5 hz (fun a => by rw [congrFun hz a]; simp)
    (V m c main_call0_v5)
  refine (congrFun h (ix2 0 j)).trans ?_
  unfold V
  after_reads_at

/-- What window 13 holds at every point: argument 13 as one row. -/
theorem iblk_13 (c : Dev nD) (t : Fin cfg0.N) (j : Fin 64) :
    (iblk m c 13 t : FVec Ideal S1x64 .f32) (ix2 0 j) = (m ((c : Thread nD τ).loc main_arg13) : FVec Ideal S64 .f32) (ix1 j) := by
  have hz : (fun a => (win0_13.index t) a * main_call0_v6.ty.shape.size a) = fun _ => 0 := funext fun a => by
    fin_cases a <;> exact Nat.zero_mul _
  have h := Memref.read_access_unit_zero (Elt Ideal) main_call0_v6 hz (fun a => by rw [congrFun hz a]; simp)
    (V m c main_call0_v6)
  refine (congrFun h (ix2 0 j)).trans ?_
  unfold V
  after_reads_at

/-- There are two points. -/
theorem points2 (t : Fin cfg0.N) : t.val < 2 := lt_of_lt_of_eq t.isLt (show cfg0.N = 2 from N_0)

/-- The row of the whole arrays that row `b` of point `t`'s block is. -/
def row (t : Fin cfg0.N) (b : Fin 2048) : Fin 4096 := ⟨2048 * t.val + b.val, by have := points2 t; omega⟩

/-- Point `t`'s index into the rows is `t`, for the tokens and for the result. -/
theorem index0 : ∀ t : Fin cfg0.N, win0_0.index t 0 = t.val := (by decide : ∀ t : Fin grid0.N, win0_0.index t 0 = t.val)
theorem index14 : ∀ t : Fin cfg0.N, win0_14.index t 0 = t.val := (by decide : ∀ t : Fin grid0.N, win0_14.index t 0 = t.val)

/-- What window 0 holds at point `t`: the rows of the tokens. -/
theorem iblk_0 (c : Dev nD) (t : Fin cfg0.N) (b : Fin 2048) (l : Fin 200) :
    (iblk m c 0 t : IVec S2048x200 32) (ix2 b l) = (m ((c : Thread nD τ).loc main_arg0) : IVec S4096x200 32) (ix2 (row t b) l) := by
  refine Eq.trans ?_ (congrFun (V_main_arg0 m c) (ix2 (row t b) l))
  show V m c main_arg0 _ = V m c main_arg0 _
  congr 1
  funext a
  apply Fin.ext
  match a with
  | ⟨0, _⟩ =>
    show win0_0.index t 0 * 2048 + 1 * b.val = 2048 * t.val + b.val
    rw [index0]; omega
  | ⟨1, _⟩ =>
    show win0_0.index t 1 * 200 + 1 * l.val = l.val
    have : win0_0.index t 1 = 0 := rfl
    omega

/-- The program's weights as launched. -/
def weights (c : Dev nD) : Weights where
  embed := m ((c : Thread nD τ).loc main_arg1)
  W1 := m ((c : Thread nD τ).loc main_arg2)
  b1 := m ((c : Thread nD τ).loc main_arg3)
  W2 := m ((c : Thread nD τ).loc main_arg4)
  b2 := m ((c : Thread nD τ).loc main_arg5)
  gamma := m ((c : Thread nD τ).loc main_arg6)
  beta := m ((c : Thread nD τ).loc main_arg7)
  Wg := m ((c : Thread nD τ).loc main_arg8)
  bg := m ((c : Thread nD τ).loc main_arg9)
  Wq := m ((c : Thread nD τ).loc main_arg10)
  bq := m ((c : Thread nD τ).loc main_arg11)
  Wo := m ((c : Thread nD τ).loc main_arg12)
  bo := m ((c : Thread nD τ).loc main_arg13)

/-- The states the windows give are the weights'. -/
theorem states_eq (c : Dev nD) (t : Fin cfg0.N) :
    states (iblk m c 1 t) (iblk m c 2 t) (iblk m c 3 t) (iblk m c 4 t) (iblk m c 5 t) (iblk m c 6 t) (iblk m c 7 t)
      = (weights m c).vocab := by
  funext v
  unfold states
  simp only [iblk_1, iblk_2, iblk_3, iblk_4, iblk_5, iblk_6, iblk_7]
  rfl

/-- THE KERNEL'S RESULT at row `row t b` and output `o`, where the row's words are those of the tokens `tok`. -/
theorem result_apply (c : Dev nD) (t : Fin cfg0.N) (b : Fin 2048) (o : Fin 64) (tok : Fin 200 → Fin 64)
    (hx : ∀ l, (m ((c : Thread nD τ).loc main_arg0) : IVec S4096x200 32) (ix2 (row t b) l) = BitVec.ofNat 32 (tok l).val) :
    ((dats m 0 c).arrAt 14 cfg0.N : FVec Ideal S4096x64 .f32) (ix2 (row t b) o) = (weights m c).answer tok o := by
  have h := congrFun ((Value.blocks14 m c t (flush0_14 t)).trans (Value.flushed14 m c t)) (ix2 b o)
  have hl : ((cfg0.win 14).blk t).view.read (Elt Ideal) ((dats m 0 c).arrAt 14 cfg0.N) (ix2 b o)
      = ((dats m 0 c).arrAt 14 cfg0.N : FVec Ideal S4096x64 .f32) (ix2 (row t b) o) := by
    show (dats m 0 c).arrAt 14 cfg0.N _ = (dats m 0 c).arrAt 14 cfg0.N _
    congr 1
    funext a
    apply Fin.ext
    match a with
    | ⟨0, _⟩ =>
      show win0_14.index t 0 * 2048 + 1 * b.val = 2048 * t.val + b.val
      rw [index14]; omega
    | ⟨1, _⟩ =>
      show win0_14.index t 1 * 64 + 1 * o.val = o.val
      have : win0_14.index t 1 = 0 := rfl
      omega
  refine hl.symm.trans (h.trans ?_)
  refine (out_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) b o tok
    (fun l => (iblk_0 m c t b l).trans (hx l))).trans ?_
  rw [states_eq]
  simp only [iblk_8, iblk_9, iblk_10, iblk_11, iblk_12, iblk_13]
  rfl

/-- Every row is a row of one of the two blocks. -/
theorem exists_row (r : Fin 4096) : ∃ t b, row t b = r :=
  ⟨⟨r.val / 2048, lt_of_lt_of_eq (by omega : r.val / 2048 < 2) N_0.symm⟩, ⟨r.val % 2048, by omega⟩, Fin.ext (by simp only [row]; omega)⟩

end Cert.KernelIdeal.Read
-- ==== Proof.RefState.lean ====
/- The reference's values read at a coordinate: token states, gate scores and queries are the specification's. -/
module

public import proofs.«01_k».proof.Proof.Gen.ReferenceIdeal.Read
public import proofs.«01_k».proof.Proof.Answer

@[expose] public section

noncomputable section

namespace Cert.ReferenceIdeal.Read

open Cert.ReferenceIdeal Cert.ReferenceIdeal.Gen Idealize.ShloMosaic Cert.Ranked

variable (x0 : IVec S4096x200 32) (x1 : FVec Ideal S64x64 .f32) (x2 : FVec Ideal S64x128 .f32) (x3 : FVec Ideal S128 .f32)
  (x4 : FVec Ideal S128x64 .f32) (x5 x6 x7 : FVec Ideal S64 .f32) (x8 : FVec Ideal S64x1 .f32) (x9 : FVec Ideal S1 .f32)
  (x10 : FVec Ideal S64x64 .f32) (x11 : FVec Ideal S64 .f32) (x12 : FVec Ideal S64x64 .f32) (x13 : FVec Ideal S64 .f32)

/-- The residual at row `r`, position `l` and coordinate `h`. -/
theorem v11_apply (r : Fin 4096) (l : Fin 200) (h : Fin 64) :
    val_main_v11 (F := Ideal) x0 x1 x2 x3 x4 x5 (ix3 r l h)
      = resid (fun i j => x2 (ix2 i j)) (fun j => x3 (ix1 j)) (fun j h => x4 (ix2 j h)) (fun h => x5 (ix1 h))
          (fun i => val_main_v0 (F := Ideal) x0 x1 (ix3 r l i)) h := by
  pointwise [val_main_v11, val_main_v10, val_main_v9, val_main_v8, val_main_v7, val_main_v6, val_main_v5, val_main_cst, val_main_v4, val_main_v3, val_main_v2, val_main_v1]
  rfl

/-- The state at row `r`, position `l` and coordinate `h`. -/
theorem v35_apply (r : Fin 4096) (l : Fin 200) (h : Fin 64) :
    val_main_v35 (F := Ideal) x0 x1 x2 x3 x4 x5 x6 x7 (ix3 r l h)
      = state (fun i j => x2 (ix2 i j)) (fun j => x3 (ix1 j)) (fun j h => x4 (ix2 j h)) (fun h => x5 (ix1 h))
          (fun h => x6 (ix1 h)) (fun h => x7 (ix1 h)) (fun i => val_main_v0 (F := Ideal) x0 x1 (ix3 r l i)) h := by
  pointwise [val_main_v35, val_main_v34, val_main_v33, val_main_v32, val_main_v31, val_main_v30, val_main_v29, val_main_v28,
    val_main_v27, val_main_v26, val_main_v25, val_main_cst_4, val_main_v24, val_main_v23, val_main_v22, val_main_v21,
    val_main_cst_3, val_main_v20, val_main_v19, val_main_cst_2, val_main_v18, val_main_v17, val_main_v16, val_main_v15,
    val_main_v14, val_main_cst_1, val_main_v13, val_main_v12, val_main_cst_0]
  unfold state unit variance mean
  simp only [v11_apply]
  rfl

/-- The gate score at row `r` and position `l`. -/
theorem v40_apply (r : Fin 4096) (l : Fin 200) :
    val_main_v40 (F := Ideal) x0 x1 x2 x3 x4 x5 x6 x7 x8 x9 (ix2 r l)
      = score (fun h => x8 (ix2 h 0)) (x9 (ix1 0)) (fun h => val_main_v35 (F := Ideal) x0 x1 x2 x3 x4 x5 x6 x7 (ix3 r l h)) := by
  pointwise [val_main_v40, val_main_v39, val_main_v38, val_main_v37, val_main_v36]
  rfl

/-- The query at row `r` and coordinate `j`: that of the last position. -/
theorem v48_apply (r : Fin 4096) (j : Fin 64) :
    val_main_v48 (F := Ideal) x0 x1 x2 x3 x4 x5 x6 x7 x10 x11 (ix2 r j)
      = query (fun h j => x10 (ix2 h j)) (fun j => x11 (ix1 j))
          (fun h => val_main_v35 (F := Ideal) x0 x1 x2 x3 x4 x5 x6 x7 (ix3 r 199 h)) j := by
  pointwise [val_main_v48, val_main_v47, val_main_v46, val_main_v45, val_main_v44, val_main_v43]
  rfl

/-- The greatest of a row's eight logits. -/
theorem v54_apply (r : Fin 4096) :
    val_main_v54 (F := Ideal) x0 x1 x2 x3 x4 x5 x6 x7 x8 x9 x10 x11 (ix1 r)
      = peak fun k => val_main_v51 (F := Ideal) x0 x1 x2 x3 x4 x5 x6 x7 x8 x9 x10 x11 (ix2 r k) := by
  pointwise [val_main_v54, val_main_v53, val_main_cst_7, val_main_v52, val_main_cst_6]
  rw [ofBits_neg_inf, bot_sup_eq]
  rfl

/-- The scaled logit at row `r` and slot `k`. -/
theorem v51_apply (r : Fin 4096) (k : Fin 8) :
    val_main_v51 (F := Ideal) x0 x1 x2 x3 x4 x5 x6 x7 x8 x9 x10 x11 (ix2 r k)
      = positionLogit (fun h => val_main_v48 (F := Ideal) x0 x1 x2 x3 x4 x5 x6 x7 x10 x11 (ix2 r h))
          (fun h => val_main_v42 (F := Ideal) x0 x1 x2 x3 x4 x5 x6 x7 x8 x9 (ix3 r k h)) := by
  pointwise [val_main_v51, val_main_v50, val_main_cst_5, val_main_v49]
  rfl

end Cert.ReferenceIdeal.Read
-- ==== Proof.RefTake.lean ====
/- The reference's two gathers read at a coordinate: a token's embedding row, and the state at a chosen position. -/
module

public import proofs.«01_k».proof.Proof.RefState

@[expose] public section

noncomputable section

namespace Cert.ReferenceIdeal.Read

open Cert.ReferenceIdeal Cert.ReferenceIdeal.Gen Idealize.ShloMosaic Cert.Ranked

/-- The gather of rows by token, at a coordinate: the operand's row `v`, where `v` is the start index clamped to the operand. -/
theorem gather_rows {α : Type} (x : S64x64.Idx → α) (idx : IVec S4096x200x1 32) (r : Fin 4096) (l : Fin 200) (h v : Fin 64)
    (hv : min (idx (ix3 r l 0)).toInt.toNat 63 = v.val) :
    Host.gather gather_S64x64_S4096x200x1_S4096x200x64_2_0_n_n_0_2_164 x idx (ix3 r l h) = x (ix2 v h) := by
  unfold Host.gather
  congr 1
  funext a
  apply Fin.ext
  match a with
  | ⟨0, _⟩ =>
    show GatherDims.start gather_S64x64_S4096x200x1_S4096x200x64_2_0_n_n_0_2_164 (ix3 r l h) idx (0 : Fin 2)
      + GatherDims.batchCoord gather_S64x64_S4096x200x1_S4096x200x64_2_0_n_n_0_2_164 (ix3 r l h) (0 : Fin 2)
      + GatherDims.offCoord gather_S64x64_S4096x200x1_S4096x200x64_2_0_n_n_0_2_164 (ix3 r l h) (0 : Fin 2) = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S64x64_S4096x200x1_S4096x200x64_2_0_n_n_0_2_164.startIndexMap from List.mem_singleton.mpr rfl)]
    refine Eq.trans ?_ hv
    refine congrArg (fun i => min (idx i).toInt.toNat 63) ?_
    funext b
    apply Fin.ext
    match b with
    | ⟨0, _⟩ => rfl
    | ⟨1, _⟩ => rfl
    | ⟨2, _⟩ => rfl
  | ⟨1, _⟩ =>
    show GatherDims.start gather_S64x64_S4096x200x1_S4096x200x64_2_0_n_n_0_2_164 (ix3 r l h) idx (1 : Fin 2)
      + GatherDims.batchCoord gather_S64x64_S4096x200x1_S4096x200x64_2_0_n_n_0_2_164 (ix3 r l h) (1 : Fin 2)
      + GatherDims.offCoord gather_S64x64_S4096x200x1_S4096x200x64_2_0_n_n_0_2_164 (ix3 r l h) (1 : Fin 2) = _
    rw [GatherDims.batchCoord_eq_zero _ _ _ List.not_mem_nil]
    unfold GatherDims.start GatherDims.offCoord
    rw [dif_neg (show ¬ (1 : Fin 2) ∈ gather_S64x64_S4096x200x1_S4096x200x64_2_0_n_n_0_2_164.startIndexMap from by decide),
      dif_pos (show (1 : Fin 2) ∈ gather_S64x64_S4096x200x1_S4096x200x64_2_0_n_n_0_2_164.sKept from by decide)]
    simp only [Nat.zero_add]
    rfl

/-- The gather of states by position, at a coordinate: row `r`'s state at position `v`, where `v` is the start index clamped. -/
theorem gather_states {α : Type} (x : S4096x200x64.Idx → α) (idx : IVec S4096x8x1 32) (r : Fin 4096) (k : Fin 8) (h : Fin 64)
    (v : Fin 200) (hv : min (idx (ix3 r k 0)).toInt.toNat 199 = v.val) :
    Host.gather gather_S4096x200x64_S4096x8x1_S4096x8x64_2_1_0_0_1_2_1164 x idx (ix3 r k h) = x (ix3 r v h) := by
  unfold Host.gather
  congr 1
  funext a
  apply Fin.ext
  match a with
  | ⟨0, _⟩ =>
    show GatherDims.start gather_S4096x200x64_S4096x8x1_S4096x8x64_2_1_0_0_1_2_1164 (ix3 r k h) idx (0 : Fin 3)
      + GatherDims.batchCoord gather_S4096x200x64_S4096x8x1_S4096x8x64_2_1_0_0_1_2_1164 (ix3 r k h) (0 : Fin 3)
      + GatherDims.offCoord gather_S4096x200x64_S4096x8x1_S4096x8x64_2_1_0_0_1_2_1164 (ix3 r k h) (0 : Fin 3) = _
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ gather_S4096x200x64_S4096x8x1_S4096x8x64_2_1_0_0_1_2_1164.operandBatchingDims from List.mem_singleton.mpr rfl)]
    simp only [Nat.zero_add, Nat.add_zero]
    rfl
  | ⟨1, _⟩ =>
    show GatherDims.start gather_S4096x200x64_S4096x8x1_S4096x8x64_2_1_0_0_1_2_1164 (ix3 r k h) idx (1 : Fin 3)
      + GatherDims.batchCoord gather_S4096x200x64_S4096x8x1_S4096x8x64_2_1_0_0_1_2_1164 (ix3 r k h) (1 : Fin 3)
      + GatherDims.offCoord gather_S4096x200x64_S4096x8x1_S4096x8x64_2_1_0_0_1_2_1164 (ix3 r k h) (1 : Fin 3) = _
    rw [GatherDims.batchCoord_eq_zero _ _ _ (show ¬ (1 : Fin 3) ∈ gather_S4096x200x64_S4096x8x1_S4096x8x64_2_1_0_0_1_2_1164.operandBatchingDims from by decide),
      GatherDims.offCoord_eq_zero _ _ _ (fun h => ((GatherDims.mem_sKept _ _).mp h).1 (List.mem_singleton.mpr rfl))]
    unfold GatherDims.start
    rw [dif_pos (show (1 : Fin 3) ∈ gather_S4096x200x64_S4096x8x1_S4096x8x64_2_1_0_0_1_2_1164.startIndexMap from List.mem_singleton.mpr rfl)]
    refine Eq.trans ?_ hv
    refine congrArg (fun i => min (idx i).toInt.toNat 199) ?_
    funext b
    apply Fin.ext
    match b with
    | ⟨0, _⟩ => rfl
    | ⟨1, _⟩ => rfl
    | ⟨2, _⟩ => rfl
  | ⟨2, _⟩ =>
    show GatherDims.start gather_S4096x200x64_S4096x8x1_S4096x8x64_2_1_0_0_1_2_1164 (ix3 r k h) idx (2 : Fin 3)
      + GatherDims.batchCoord gather_S4096x200x64_S4096x8x1_S4096x8x64_2_1_0_0_1_2_1164 (ix3 r k h) (2 : Fin 3)
      + GatherDims.offCoord gather_S4096x200x64_S4096x8x1_S4096x8x64_2_1_0_0_1_2_1164 (ix3 r k h) (2 : Fin 3) = _
    rw [GatherDims.batchCoord_eq_zero _ _ _ (show ¬ (2 : Fin 3) ∈ gather_S4096x200x64_S4096x8x1_S4096x8x64_2_1_0_0_1_2_1164.operandBatchingDims from by decide)]
    unfold GatherDims.start GatherDims.offCoord
    rw [dif_neg (show ¬ (2 : Fin 3) ∈ gather_S4096x200x64_S4096x8x1_S4096x8x64_2_1_0_0_1_2_1164.startIndexMap from by decide),
      dif_pos (show (2 : Fin 3) ∈ gather_S4096x200x64_S4096x8x1_S4096x8x64_2_1_0_0_1_2_1164.sKept from by decide)]
    simp only [Nat.zero_add]
    rfl

variable (x0 : IVec S4096x200 32) (x1 : FVec Ideal S64x64 .f32)

/-- A token's word is not wrapped and is in the vocabulary's range. -/
theorem token_word : ∀ v : Fin 64,
    Scalar.select (IntOp.cmpi .slt (BitVec.ofNat 32 v.val) 0#32) (IntOp.addi (BitVec.ofNat 32 v.val) 64#32) (BitVec.ofNat 32 v.val)
        = BitVec.ofNat 32 v.val
      ∧ IntOp.andi (IntOp.cmpi .sge (BitVec.ofNat 32 v.val) 0#32) (IntOp.cmpi .sle (BitVec.ofNat 32 v.val) 63#32) = 1#1
      ∧ min (BitVec.ofNat 32 v.val).toInt.toNat 63 = v.val := by
  decide

/-- A position's word is not wrapped and is in the row's range. -/
theorem position_word : ∀ v : Fin 200,
    Scalar.select (IntOp.cmpi .slt (BitVec.ofNat 32 v.val) 0#32) (IntOp.addi (BitVec.ofNat 32 v.val) 200#32) (BitVec.ofNat 32 v.val)
        = BitVec.ofNat 32 v.val
      ∧ IntOp.andi (IntOp.cmpi .sge (BitVec.ofNat 32 v.val) 0#32) (IntOp.cmpi .sle (BitVec.ofNat 32 v.val) 199#32) = 1#1
      ∧ min (BitVec.ofNat 32 v.val).toInt.toNat 199 = v.val := by
  decide

/-- The start index of row `r` and position `l`, at a token. -/
theorem start_token (r : Fin 4096) (l : Fin 200) (v : Fin 64) (hx : x0 (ix2 r l) = BitVec.ofNat 32 v.val) :
    val_main_call0_v5 (F := Ideal) x0 (ix3 r l 0) = BitVec.ofNat 32 v.val := by
  pointwise [val_main_call0_v5, val_main_call0_v4, val_main_call0_v3, val_main_call0_v2, val_main_call0_v1,
    val_main_call0_v0, val_main_call0_c, val_main_call0_c_0]
  rw [hx]
  exact (token_word v).1

/-- The range check of row `r` and position `l` holds at a token. -/
theorem range_token (r : Fin 4096) (l : Fin 200) (v : Fin 64) (hx : x0 (ix2 r l) = BitVec.ofNat 32 v.val) :
    val_main_call0_v12 (F := Ideal) x0 (ix2 r l) = 1#1 := by
  pointwise [val_main_call0_v12, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_c, val_main_call0_c_0, val_main_call0_c_1, val_main_call0_c_2, val_main_call0_c_3]
  rw [hx, (token_word v).1, (token_word v).2.1, Finset.univ_unique, Finset.fold_singleton]
  rfl

/-- The embedding taken at row `r` and position `l` is the token's row. -/
theorem v0_apply (r : Fin 4096) (l : Fin 200) (h v : Fin 64) (hx : x0 (ix2 r l) = BitVec.ofNat 32 v.val) :
    val_main_v0 (F := Ideal) x0 x1 (ix3 r l h) = x1 (ix2 v h) := by
  pointwise [val_main_v0, val_main_call0_v14, val_main_call0_v13, val_main_call0_v15, val_main_call0_cst]
  rw [range_token x0 r l v hx, gather_rows x1 _ r l h v (by rw [start_token x0 r l v hx]; exact (token_word v).2.2)]
  rfl

/-- The order in which a row's positions are ranked: by greater value, equal values in the order of their positions. -/
def ranked (s : Fin 200 → EReal) : Fin 200 → Fin 200 :=
  sortedFrom fun p q => FloatOps.cmpfTotal (F := Ideal) (φ := .f32) .gt (s p) (s q) == 1#1

/-- A row's first eight entries. -/
theorem slice_eight {α : Type} (y : S4096x200.Idx → α) (fits) (r : Fin 4096) (k : Fin 8) :
    extractStridedSlice S4096x8 (fun _ => 0) y fits (ix2 r k) = y (ix2 r (k.castLE (by norm_num))) := by
  unfold extractStridedSlice
  congr 1
  funext a
  apply Fin.ext
  match a with
  | ⟨0, _⟩ => exact Nat.zero_add _
  | ⟨1, _⟩ => exact Nat.zero_add _

/-- A coordinate moved along the second axis. -/
theorem along_one (r : Fin 4096) (q p : Fin 200) : Shape.Idx.along (s := S4096x200) (ix2 r q) (1 : Fin 2) p = ix2 r p := by
  funext a
  match a with
  | ⟨0, _⟩ => rfl
  | ⟨1, _⟩ => rfl

/-- The indices of a row's eight greatest values are the first eight ranked positions. -/
theorem topK_indices (x : FVec Ideal S4096x200 .f32) (r : Fin 4096) (k : Fin 8) :
    (Host.topK S4096x8 1 (FloatOps.cmpfTotal .gt) x sliceFits_S4096x200_S4096x8).2 (ix2 r k)
      = BitVec.ofNat 32 (ranked (fun p => x (ix2 r p)) (k.castLE (by norm_num))).val := by
  unfold Host.topK Host.sort2
  simp only [show (1 : Nat) < S4096x200.rank from by decide, ↓reduceDIte, slice_eight]
  have key : ∀ (K : Fin 200) (A : Fin 200 → S4096x200.Idx), A = (fun p => ix2 r p) →
      iotaInDim S4096x200 32 (1 : Fin 2)
        (A (sortedFrom (fun p q => FloatOps.cmpfTotal (F := Ideal) (φ := .f32) .gt (x (A p)) (x (A q)) == 1#1) K))
      = BitVec.ofNat 32 (ranked (fun p => x (ix2 r p)) K).val := by
    rintro K _ rfl
    rfl
  exact key (k.castLE (by norm_num)) (fun p => Shape.Idx.along (s := S4096x200) (ix2 r (k.castLE (by norm_num))) (1 : Fin 2) p)
    (funext (along_one r _))

variable (x2 : FVec Ideal S64x128 .f32) (x3 : FVec Ideal S128 .f32)
  (x4 : FVec Ideal S128x64 .f32) (x5 x6 x7 : FVec Ideal S64 .f32) (x8 : FVec Ideal S64x1 .f32) (x9 : FVec Ideal S1 .f32)
  (x10 : FVec Ideal S64x64 .f32) (x11 : FVec Ideal S64 .f32) (x12 : FVec Ideal S64x64 .f32) (x13 : FVec Ideal S64 .f32)

/-- The positions of row `r` in the order of their gate scores. -/
def place (r : Fin 4096) : Fin 200 → Fin 200 := ranked fun p => val_main_v40 (F := Ideal) x0 x1 x2 x3 x4 x5 x6 x7 x8 x9 (ix2 r p)

/-- The position in slot `k` of row `r`. -/
def slot (r : Fin 4096) (k : Fin 8) : Fin 200 := place x0 x1 x2 x3 x4 x5 x6 x7 x8 x9 r (k.castLE (by norm_num))

/-- The reference's index in slot `k` of row `r` is that slot's position. -/
theorem indices_apply (r : Fin 4096) (k : Fin 8) :
    val_main_indices (F := Ideal) x0 x1 x2 x3 x4 x5 x6 x7 x8 x9 (ix2 r k) = BitVec.ofNat 32 (slot x0 x1 x2 x3 x4 x5 x6 x7 x8 x9 r k).val :=
  topK_indices _ r k

/-- The start index of row `r` and slot `k` is that slot's position. -/
theorem start_position (r : Fin 4096) (k : Fin 8) :
    val_main_call1_v4 (F := Ideal) x0 x1 x2 x3 x4 x5 x6 x7 x8 x9 (ix3 r k 0) = BitVec.ofNat 32 (slot x0 x1 x2 x3 x4 x5 x6 x7 x8 x9 r k).val := by
  pointwise [val_main_call1_v4, val_main_call1_v3, val_main_call1_v2, val_main_call1_v1,
    val_main_call1_v0, val_main_call1_c, val_main_call1_c_0, val_main_v41]
  rw [indices_apply]
  exact (position_word _).1

/-- The range check of row `r` and slot `k` holds. -/
theorem range_position (r : Fin 4096) (k : Fin 8) :
    val_main_call1_v11 (F := Ideal) x0 x1 x2 x3 x4 x5 x6 x7 x8 x9 (ix2 r k) = 1#1 := by
  pointwise [val_main_call1_v11, val_main_call1_v10, val_main_call1_v9, val_main_call1_v8, val_main_call1_v7,
    val_main_call1_v6, val_main_call1_v5, val_main_call1_v4, val_main_call1_v3, val_main_call1_v2, val_main_call1_v1,
    val_main_call1_v0, val_main_call1_c, val_main_call1_c_0, val_main_call1_c_1, val_main_call1_c_2, val_main_call1_c_3,
    val_main_v41]
  rw [indices_apply, (position_word _).1, (position_word _).2.1, Finset.univ_unique, Finset.fold_singleton]
  rfl

/-- The state taken at row `r` and slot `k` is the state at that slot's position. -/
theorem v42_apply (r : Fin 4096) (k : Fin 8) (h : Fin 64) :
    val_main_v42 (F := Ideal) x0 x1 x2 x3 x4 x5 x6 x7 x8 x9 (ix3 r k h)
      = val_main_v35 (F := Ideal) x0 x1 x2 x3 x4 x5 x6 x7 (ix3 r (slot x0 x1 x2 x3 x4 x5 x6 x7 x8 x9 r k) h) := by
  pointwise [val_main_v42, val_main_call1_v14, val_main_call1_v13, val_main_call1_v12, val_main_call1_cst]
  rw [range_position, gather_states _ _ r k h (slot x0 x1 x2 x3 x4 x5 x6 x7 x8 x9 r k)
    (by rw [start_position]; exact (position_word _).2.2)]
  rfl

/-- The reference's result at row `r` and output `o`: the read-out of the states taken, by position. -/
theorem v70_apply (r : Fin 4096) (o : Fin 64) :
    val_main_v70 (F := Ideal) x0 x1 x2 x3 x4 x5 x6 x7 x8 x9 x10 x11 x12 x13 (ix2 r o)
      = byPosition (fun k h => val_main_v42 (F := Ideal) x0 x1 x2 x3 x4 x5 x6 x7 x8 x9 (ix3 r k h))
          (fun h => val_main_v48 (F := Ideal) x0 x1 x2 x3 x4 x5 x6 x7 x10 x11 (ix2 r h))
          (fun h o => x12 (ix2 h o)) (fun o => x13 (ix1 o)) o := by
  pointwise [val_main_v70, val_main_v69, val_main_v68, val_main_v67, val_main_v66, val_main_cst_9, val_main_v65,
    val_main_v64, val_main_v63, val_main_v62, val_main_v61, val_main_v60, val_main_v59, val_main_cst_8, val_main_v58,
    val_main_v57, val_main_v56, val_main_v55]
  simp only [v54_apply, v51_apply]
  rfl

end Cert.ReferenceIdeal.Read
-- ==== Proof.Finite.lean ====
/- Which values of the specification are real numbers: a normalised row always is, whatever the row, so states are real once
   scale and shift are; and the arithmetic of real extended reals. -/
module

public import proofs.«01_k».proof.Proof.Spec
public import Mathlib.Data.EReal.Inv
public import Mathlib.Analysis.SpecialFunctions.Exp
public import Mathlib.Analysis.SpecialFunctions.Pow.NNReal

@[expose] public section

noncomputable section

namespace Cert.Ranked

open Idealize.ShloMosaic

/-- An extended real that is a real number. -/
def IsReal (x : EReal) : Prop := ∃ r : ℝ, x = (r : EReal)

/-- A sum of real numbers, taken among the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem width_eq : width = ((64 : ℝ) : EReal) := by
  simp [width, Ideal.ofBits, Ideal.ieee, -EReal.coe_mul]; norm_num

theorem slots_eq : slots = ((8 : ℝ) : EReal) := by
  simp [slots, Ideal.ofBits, Ideal.ieee, -EReal.coe_mul]; norm_num

theorem eighth_eq : eighth = ((1 / 8 : ℝ) : EReal) := by
  simp [eighth, Ideal.ofBits, Ideal.ieee, -EReal.coe_mul]; norm_num

theorem offset_pos : ∃ r : ℝ, 0 < r ∧ offset = (r : EReal) := by
  refine ⟨_, ?_, by simp [offset, Ideal.ofBits, Ideal.ieee, -EReal.coe_mul]; rfl⟩
  norm_num

theorem masked_real : IsReal masked := by
  refine ⟨_, by simp [masked, Ideal.ofBits, Ideal.ieee, -EReal.coe_mul]; rfl⟩

/-- A quotient of real numbers by a nonzero one. -/
theorem div_real (a b : ℝ) (hb : b ≠ 0) : Ideal.div (a : EReal) (b : EReal) = ((a / b : ℝ) : EReal) := by
  rw [Ideal.div_coe hb, ← EReal.coe_mul, mul_one_div]

/-- A sum with a term `⊥` is `⊥`. -/
theorem sum_eq_bot {ι : Type} (s : Finset ι) (f : ι → EReal) (i : ι) (hi : i ∈ s) (h : f i = ⊥) : ∑ i ∈ s, f i = ⊥ := by
  classical
  rw [← Finset.add_sum_erase s f hi, h, EReal.bot_add]

/-- A sum of terms none of which is `⊥` is not `⊥`. -/
theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha, ne_eq, EReal.add_eq_bot_iff, not_or]
    exact ⟨h a (Finset.mem_insert_self a s), ih fun i hi => h i (Finset.mem_insert_of_mem hi)⟩

/-- A sum with a term `⊤` and none `⊥` is `⊤`. -/
theorem sum_eq_top {ι : Type} (s : Finset ι) (f : ι → EReal) (i : ι) (hi : i ∈ s) (h : f i = ⊤) (hb : ∀ i ∈ s, f i ≠ ⊥) :
    ∑ i ∈ s, f i = ⊤ := by
  classical
  rw [← Finset.add_sum_erase s f hi, h]
  exact EReal.top_add_of_ne_bot (sum_ne_bot _ _ fun j hj => hb j (Finset.mem_of_mem_erase hj))

/-- Dividing `⊤` by the width leaves it. -/
theorem div_top_width : Ideal.div ⊤ width = ⊤ := by
  rw [width_eq, Ideal.div_coe (by norm_num)]
  exact EReal.top_mul_coe_of_pos (by norm_num)

/-- Dividing `⊥` by the width leaves it. -/
theorem div_bot_width : Ideal.div ⊥ width = ⊥ := by
  rw [width_eq, Ideal.div_coe (by norm_num)]
  exact EReal.bot_mul_coe_of_pos (by norm_num)

/-- Dividing an infinity by `⊤` gives zero. -/
theorem div_top (x : EReal) : Ideal.div x ⊤ = 0 := by
  rw [Ideal.div, if_neg EReal.top_ne_zero, EReal.inv_top, mul_zero]

/-- A row with an infinite entry normalises to zero: its mean is infinite, so is every deviation, so is the variance. -/
theorem unit_of_infinite (x : Fin 64 → EReal) (i : Fin 64) (hi : ¬ IsReal (x i)) (h : Fin 64) : unit x h = 0 := by
  have hm : mean x = ⊤ ∨ mean x = ⊥ := by
    unfold mean
    by_cases hb : ∃ j, x j = ⊥
    · obtain ⟨j, hj⟩ := hb
      rw [sum_eq_bot _ _ j (Finset.mem_univ j) hj]
      exact Or.inr div_bot_width
    · have hi' : x i = ⊤ := by
        induction hx : x i with
        | bot => exact absurd ⟨i, hx⟩ hb
        | coe r => exact absurd ⟨r, hx⟩ hi
        | top => rfl
      rw [sum_eq_top _ _ i (Finset.mem_univ i) hi' (fun j _ hj => hb ⟨j, hj⟩)]
      exact Or.inl div_top_width
  have hd : ∀ k, x k - mean x = ⊤ ∨ x k - mean x = ⊥ := by
    intro k
    rcases hm with hm | hm <;> rw [hm]
    · right
      rw [sub_eq_add_neg, EReal.neg_top, EReal.add_bot]
    · rw [sub_eq_add_neg, EReal.neg_bot]
      by_cases hk : x k = ⊥
      · right
        rw [hk, EReal.bot_add]
      · left
        exact EReal.add_top_of_ne_bot hk
  have hs : ∀ k, (x k - mean x) * (x k - mean x) = ⊤ := by
    intro k
    rcases hd k with hk | hk <;> rw [hk]
    · exact EReal.top_mul_top
    · exact EReal.bot_mul_bot
  have hv : variance x = ⊤ := by
    unfold variance
    rw [sum_eq_top _ _ i (Finset.mem_univ i) (hs i) (fun j _ => by rw [hs j]; exact top_ne_bot)]
    exact div_top_width
  obtain ⟨e, he, heq⟩ := offset_pos
  unfold unit
  rw [hv, heq, EReal.top_add_coe, show Ideal.sqrt ⊤ = ⊤ from rfl, div_top]

/-- A row of real numbers normalises to real numbers: the variance is not negative and the offset is positive. -/
theorem unit_of_real (x : Fin 64 → ℝ) (h : Fin 64) : IsReal (unit (fun k => (x k : EReal)) h) := by
  obtain ⟨e, he, heq⟩ := offset_pos
  have hm : mean (fun k => (x k : EReal)) = (((∑ k, x k) / 64 : ℝ) : EReal) := by
    unfold mean
    rw [← coe_sum_real, width_eq, div_real _ _ (by norm_num)]
  set m : ℝ := (∑ k, x k) / 64 with hmdef
  have hv : variance (fun k => (x k : EReal)) = (((∑ k, (x k - m) * (x k - m)) / 64 : ℝ) : EReal) := by
    unfold variance
    rw [hm]
    simp only [← EReal.coe_sub, ← EReal.coe_mul]
    rw [← coe_sum_real, width_eq, div_real _ _ (by norm_num)]
  have hp : 0 < (∑ k, (x k - m) * (x k - m)) / 64 + e := by
    have : 0 ≤ ∑ k, (x k - m) * (x k - m) := Finset.sum_nonneg fun k _ => mul_self_nonneg _
    positivity
  unfold unit
  rw [hv, hm, heq, ← EReal.coe_add, Ideal.sqrt_coe, if_neg (not_lt.mpr hp.le), ← EReal.coe_sub,
    div_real _ _ (Real.sqrt_pos.mpr hp).ne']
  exact ⟨_, rfl⟩

/-- EVERY row normalises to real numbers. -/
theorem unit_real (x : Fin 64 → EReal) (h : Fin 64) : IsReal (unit x h) := by
  by_cases hx : ∀ k, IsReal (x k)
  · choose r hr using hx
    rw [show x = fun k => (r k : EReal) from funext hr]
    exact unit_of_real r h
  · push Not at hx
    obtain ⟨i, hi⟩ := hx
    rw [unit_of_infinite x i hi]
    exact ⟨0, rfl⟩

/-- States are real numbers when the scale and the shift of the normalisation are. -/
theorem state_real (W1 : Fin 64 → Fin 128 → EReal) (b1 : Fin 128 → EReal) (W2 : Fin 128 → Fin 64 → EReal)
    (b2 ga be e : Fin 64 → EReal) (hga : ∀ h, IsReal (ga h)) (hbe : ∀ h, IsReal (be h)) (h : Fin 64) :
    IsReal (state W1 b1 W2 b2 ga be e h) := by
  obtain ⟨u, hu⟩ := unit_real (resid W1 b1 W2 b2 e) h
  obtain ⟨g, hg⟩ := hga h
  obtain ⟨b, hb⟩ := hbe h
  unfold state
  rw [hu, hg, hb, ← EReal.coe_mul, ← EReal.coe_add]
  exact ⟨_, rfl⟩

/-- Queries of real states by real weights are real. -/
theorem query_real (Wq : Fin 64 → Fin 64 → EReal) (bq s : Fin 64 → EReal) (hW : ∀ h j, IsReal (Wq h j))
    (hb : ∀ j, IsReal (bq j)) (hs : ∀ h, IsReal (s h)) (j : Fin 64) : IsReal (query Wq bq s j) := by
  choose S hS using hs
  choose W hW using fun h => hW h j
  obtain ⟨b, hb⟩ := hb j
  unfold query
  simp only [hS, hW, hb, ← EReal.coe_mul]
  rw [← coe_sum_real, ← EReal.coe_add]
  exact ⟨_, rfl⟩

/-- The greatest of real numbers, at least one of them, is a real number. -/
theorem peak_real {n : Nat} (f : Fin (n + 1) → EReal) (hf : ∀ i, IsReal (f i)) : IsReal (peak f) := by
  have h1 : peak f ≠ ⊤ := by
    apply ne_of_lt
    unfold peak
    rw [Finset.fold_max_lt]
    refine ⟨bot_lt_top, fun i _ => ?_⟩
    obtain ⟨r, hr⟩ := hf i
    rw [hr]
    exact EReal.coe_lt_top r
  have h2 : peak f ≠ ⊥ := by
    apply ne_of_gt
    unfold peak
    rw [Finset.lt_fold_max]
    obtain ⟨r, hr⟩ := hf 0
    exact Or.inr ⟨0, Finset.mem_univ _, by rw [hr]; exact EReal.bot_lt_coe r⟩
  exact ⟨(peak f).toReal, (EReal.coe_toReal h1 h2).symm⟩

end Cert.Ranked
-- ==== Proof.Selection.lean ====
/- Which positions a descending sort puts first, counted by value. The positions of a row carry values with a key; once
   the positions are listed with the keys descending, the first `k` of them hold each value as often as a histogram of the
   row foretells: `min (k - larger) count`, where `larger` counts the positions whose value has a larger key. -/
module

public import Mathlib.Data.Fintype.BigOperators
public import Mathlib.Data.Real.Basic
public import Mathlib.Order.Interval.Finset.Fin
public import Mathlib.Algebra.BigOperators.Group.Finset.Basic
public import Mathlib.Tactic.Ring
public import Mathlib.Tactic.Linarith

@[expose] public section

namespace Cert.Ranked

open Finset

/-- A property of positions that holds of every earlier position too holds of exactly the first so many. -/
theorem iff_lt_card_of_downward {n : Nat} (p : Fin n → Prop) [DecidablePred p]
    (h : ∀ i j, i ≤ j → p j → p i) (k : Fin n) : p k ↔ k.val < #{j | p j} := by
  constructor
  · intro hk
    have h1 : Finset.Iic k ⊆ ({j | p j} : Finset (Fin n)) := fun j hj => by
      simp only [Finset.mem_filter, Finset.mem_univ, true_and]
      exact h j k (Finset.mem_Iic.mp hj) hk
    have h2 := Finset.card_le_card h1
    rw [Fin.card_Iic] at h2
    omega
  · intro hk
    by_contra hn
    have h1 : ({j | p j} : Finset (Fin n)) ⊆ Finset.Iio k := fun j hj => by
      simp only [Finset.mem_filter, Finset.mem_univ, true_and] at hj
      rw [Finset.mem_Iio]
      by_contra hjk
      exact hn (h k j (not_lt.mp hjk) hj)
    have h2 := Finset.card_le_card h1
    rw [Fin.card_Iio] at h2
    omega

/-- Of `Fin n`, the positions between `a` and `b` among the first `K` number `min K b - min K a`. -/
theorem card_between {K n : Nat} (hK : K ≤ n) (a b : Nat) (f : Fin n → Prop) [DecidablePred f]
    (hf : ∀ k, f k ↔ a ≤ k.val ∧ k.val < b) : #{k : Fin K | f (k.castLE hK)} = min K b - min K a := by
  have h1 : ({k : Fin K | f (k.castLE hK)} : Finset (Fin K)).map Fin.valEmbedding = Finset.Ico (min K a) (min K b) := by
    ext x
    simp only [Finset.mem_map, Finset.mem_filter, Finset.mem_univ, true_and, Fin.valEmbedding_apply, Finset.mem_Ico, hf,
      Fin.val_castLE]
    constructor
    · rintro ⟨k, ⟨h1, h2⟩, rfl⟩
      have := k.isLt
      omega
    · rintro ⟨h1, h2⟩
      exact ⟨⟨x, by omega⟩, ⟨by simp only; omega, by simp only; omega⟩, rfl⟩
  rw [← Finset.card_map Fin.valEmbedding, h1, Nat.card_Ico]

variable {κ : Type} [LinearOrder κ] {V : Type} [DecidableEq V]

/-- Values `f k` listed with their keys descending, different values having different keys: among the first `K` positions
    a value `v` occurs `min (K - larger) count` times. -/
theorem card_first {n K : Nat} (hK : K ≤ n) (key : V → κ) (hkey : Function.Injective key) (f : Fin n → V)
    (hf : ∀ i j, i ≤ j → key (f j) ≤ key (f i)) (v : V) :
    #{k : Fin K | f (k.castLE hK) = v} = min (K - #{k | key v < key (f k)}) #{k | f k = v} := by
  have hlt := iff_lt_card_of_downward (fun k => key v < key (f k)) (fun i j hij hj => lt_of_lt_of_le hj (hf i j hij))
  have hle := iff_lt_card_of_downward (fun k => key v ≤ key (f k)) (fun i j hij hj => le_trans hj (hf i j hij))
  have hsum : #{k | key v ≤ key (f k)} = #{k | key v < key (f k)} + #{k | f k = v} := by
    rw [← Finset.card_union_of_disjoint]
    · congr 1
      ext k
      simp only [Finset.mem_filter, Finset.mem_univ, true_and, Finset.mem_union]
      rw [le_iff_lt_or_eq]
      exact or_congr_right ⟨fun h => (hkey h).symm, fun h => by rw [h]⟩
    · rw [Finset.disjoint_filter]
      intro k _ h1 h2
      rw [h2] at h1
      exact lt_irrefl _ h1
  rw [card_between hK #{k | key v < key (f k)} #{k | key v ≤ key (f k)} (fun k => f k = v)]
  · omega
  · intro k
    rw [← not_lt, ← hlt k, ← hle k, not_lt]
    exact ⟨fun h => by rw [h]; exact ⟨le_refl _, le_refl _⟩, fun h => hkey (le_antisymm h.1 h.2)⟩

/-- A permutation of the positions leaves the number of positions with a property unchanged. -/
theorem card_comp_bijective {n : Nat} (σ : Fin n → Fin n) (hσ : Function.Bijective σ) (p : Fin n → Prop) [DecidablePred p] :
    #{k | p (σ k)} = #{k | p k} := by
  rw [← Finset.card_map (Equiv.ofBijective σ hσ).toEmbedding]
  congr 1
  ext x
  simp only [Finset.mem_map, Finset.mem_filter, Finset.mem_univ, true_and, Equiv.coe_toEmbedding, Equiv.ofBijective_apply]
  constructor
  · rintro ⟨a, ha, rfl⟩
    exact ha
  · intro hx
    obtain ⟨a, rfl⟩ := hσ.2 x
    exact ⟨a, hx, rfl⟩

/-- The positions whose value satisfies `p`, counted through the histogram of the values. -/
theorem card_eq_sum_histogram {n : Nat} [Fintype V] (f : Fin n → V) (p : V → Prop) [DecidablePred p] :
    #{k | p (f k)} = ∑ u, #{k | f k = u} * (if p u then 1 else 0) := by
  rw [Finset.card_eq_sum_card_fiberwise (f := f) (t := Finset.univ) (fun _ _ => Finset.mem_coe.mpr (Finset.mem_univ _))]
  refine Finset.sum_congr rfl fun u _ => ?_
  rw [Finset.filter_filter]
  split
  · rename_i hu
    rw [mul_one]
    congr 1
    ext k
    simp only [Finset.mem_filter, Finset.mem_univ, true_and]
    exact ⟨fun h => h.2, fun h => ⟨by rw [h]; exact hu, h⟩⟩
  · rename_i hu
    rw [mul_zero, Finset.card_eq_zero, Finset.filter_eq_empty_iff]
    rintro k _ ⟨h1, h2⟩
    rw [h2] at h1
    exact hu h1

/-- A sum over positions of a function of their values is the histogram's sum. -/
theorem sum_eq_histogram {K : Nat} [Fintype V] (t : Fin K → V) (g : V → ℝ) :
    ∑ k, g (t k) = ∑ v, (#{k | t k = v} : ℝ) * g v := by
  rw [← Finset.sum_fiberwise_of_maps_to (g := t) (t := Finset.univ) (fun _ _ => Finset.mem_univ _)]
  refine Finset.sum_congr rfl fun v _ => ?_
  rw [← nsmul_eq_mul, ← Finset.sum_const]
  exact Finset.sum_congr rfl fun k hk => by rw [(Finset.mem_filter.mp hk).2]

end Cert.Ranked
-- ==== Proof.Algebra.lean ====
/- The kernel's answer is the reference's. With real states, queries and read-out weights, and the eight kept positions holding
   each token as often as the histogram foretells, the softmax over positions and the weighted softmax over tokens are the
   same mixture, and reading a mixture of states out is mixing the read-outs. -/
module

public import proofs.«01_k».proof.Proof.Finite
public import proofs.«01_k».proof.Proof.Selection
public import Mathlib.Tactic.FieldSimp

@[expose] public section

noncomputable section

namespace Cert.Ranked

open Idealize.ShloMosaic Finset

/-- The histogram as a number. -/
theorem count_eq (tok : Fin 200 → Fin 64) (v : Fin 64) : count tok v = ((#{l | tok l = v} : ℝ) : EReal) := by
  unfold count
  rw [Finset.card_filter, Nat.cast_sum, coe_sum_real]
  refine Finset.sum_congr rfl fun l _ => ?_
  split <;> simp

/-- The number of positions with a greater score, through the histogram. -/
theorem larger_eq (sc : Fin 64 → EReal) (tok : Fin 200 → Fin 64) (v : Fin 64) :
    larger sc tok v = ((#{l | sc v < sc (tok l)} : ℝ) : EReal) := by
  classical
  unfold larger
  rw [card_eq_sum_histogram tok fun u => sc v < sc u, Nat.cast_sum, coe_sum_real]
  refine Finset.sum_congr rfl fun u _ => ?_
  rw [count_eq]
  split <;> simp

/-- What the kernel computes as the share of a token in the eight slots is the whole number `min (8 - larger) count`. -/
theorem taken_eq (sc : Fin 64 → EReal) (tok : Fin 200 → Fin 64) (v : Fin 64) :
    taken sc tok v = ((min (8 - #{l | sc v < sc (tok l)}) #{l | tok l = v} : ℕ) : ℝ) := by
  unfold taken
  rw [larger_eq, count_eq, slots_eq, ← EReal.coe_sub, ← EReal.coe_zero]
  rw [← EReal.coe_strictMono.monotone.map_max, ← EReal.coe_strictMono.monotone.map_min]
  congr 1
  rw [Nat.cast_min]
  congr 1
  rcases le_total #{l | sc v < sc (tok l)} 8 with h | h
  · rw [Nat.cast_sub h]
    rw [max_eq_left]
    · norm_num
    · have : ((#{l | sc v < sc (tok l)} : ℕ) : ℝ) ≤ (8 : ℕ) := Nat.cast_le.mpr h
      norm_num at this ⊢
      linarith
  · rw [Nat.sub_eq_zero_of_le h, max_eq_right]
    · norm_num
    · have : ((8 : ℕ) : ℝ) ≤ ((#{l | sc v < sc (tok l)} : ℕ) : ℝ) := Nat.cast_le.mpr h
      norm_num at this ⊢
      linarith

/-- The weight of a token filling `n` slots, as a number. -/
theorem weight_real (n : ℕ) (x m : ℝ) :
    weight ((n : ℝ) : EReal) x m = (((n : ℝ) * Real.exp (x - m) : ℝ) : EReal) := by
  unfold weight
  rw [← EReal.coe_sub, Ideal.exp_coe, ← EReal.coe_mul]
  split
  · rfl
  · rename_i h
    have hn : n = 0 := by
      by_contra h0
      exact h (by rw [← EReal.coe_zero, EReal.coe_lt_coe_iff]; exact_mod_cast Nat.pos_of_ne_zero h0)
    simp [hn]

/-- The two softmaxes over the reals: positions `t k` holding tokens, `n v` of them the token `v`; logits `L`, any two
    shifts; the mixture read out by weights `w` and the read-outs mixed. -/
theorem mixture_eq (t : Fin 8 → Fin 64) (n : Fin 64 → ℕ) (hn : ∀ v, #{k | t k = v} = n v) (L : Fin 64 → ℝ) (m m' : ℝ)
    (s : Fin 64 → Fin 64 → ℝ) (w : Fin 64 → ℝ) :
    ∑ v, (n v * Real.exp (L v - m)) / (∑ u, n u * Real.exp (L u - m)) * (∑ h, s v h * w h)
      = ∑ h, (∑ k, Real.exp (L (t k) - m') / (∑ k', Real.exp (L (t k') - m')) * s (t k) h) * w h := by
  have hshift : ∀ v, Real.exp (L v - m') = Real.exp (L v - m) * Real.exp (m - m') := fun v => by
    rw [← Real.exp_add]; congr 1; ring
  have hden : ∑ k', Real.exp (L (t k') - m') = (∑ u, n u * Real.exp (L u - m)) * Real.exp (m - m') := by
    rw [sum_eq_histogram t fun v => Real.exp (L v - m'), Finset.sum_mul]
    refine Finset.sum_congr rfl fun v _ => ?_
    rw [hn, hshift, mul_assoc]
  have hpos : 0 < ∑ k' : Fin 8, Real.exp (L (t k') - m') :=
    Finset.sum_pos (fun k _ => Real.exp_pos _) ⟨0, Finset.mem_univ _⟩
  have hZ : (∑ u, n u * Real.exp (L u - m)) ≠ 0 := by
    intro h0
    rw [hden, h0, zero_mul] at hpos
    exact lt_irrefl _ hpos
  have hE : Real.exp (m - m') ≠ 0 := (Real.exp_pos _).ne'
  have hin : ∀ h, ∑ k, Real.exp (L (t k) - m') / (∑ k', Real.exp (L (t k') - m')) * s (t k) h
      = ∑ v, (n v * Real.exp (L v - m)) / (∑ u, n u * Real.exp (L u - m)) * s v h := by
    intro h
    rw [sum_eq_histogram t fun v => Real.exp (L v - m') / (∑ k', Real.exp (L (t k') - m')) * s v h]
    refine Finset.sum_congr rfl fun v _ => ?_
    rw [hn, hden, hshift]
    field_simp
  simp only [hin, Finset.mul_sum, Finset.sum_mul]
  rw [Finset.sum_comm]
  refine Finset.sum_congr rfl fun h _ => Finset.sum_congr rfl fun v _ => ?_
  ring

/-- THE TWO ANSWERS AGREE: over a vocabulary of real states with different scores, real queries and real read-out weights,
    when the reference keeps the first eight positions `σ` of the row in the order of descending scores. -/
theorem byToken_eq_byPosition (s : Fin 64 → Fin 64 → EReal) (sc q : Fin 64 → EReal) (Wo : Fin 64 → Fin 64 → EReal)
    (bo : Fin 64 → EReal) (tok : Fin 200 → Fin 64) (hs : ∀ v h, IsReal (s v h)) (hq : ∀ h, IsReal (q h))
    (hWo : ∀ h o, IsReal (Wo h o)) (hsc : Function.Injective sc) (σ : Fin 200 → Fin 200) (hσ : Function.Bijective σ)
    (hord : ∀ i j, i ≤ j → sc (tok (σ j)) ≤ sc (tok (σ i))) (o : Fin 64) :
    byToken s sc q Wo bo tok o = byPosition (fun k => s (tok (σ (k.castLE (by norm_num))))) q Wo bo o := by
  choose S hS using hs
  choose Q hQ using hq
  choose W hW using hWo
  have hn : ∀ v, #{k : Fin 8 | tok (σ (k.castLE (by norm_num))) = v}
      = min (8 - #{l | sc v < sc (tok l)}) #{l | tok l = v} := fun v => by
    have h1 := card_first (K := 8) (n := 200) (by norm_num) sc hsc (fun k => tok (σ k)) hord v
    rw [card_comp_bijective σ hσ fun l => sc v < sc (tok l), card_comp_bijective σ hσ fun l => tok l = v] at h1
    exact h1
  generalize hN : (fun v => min (8 - #{l | sc v < sc (tok l)}) #{l | tok l = v}) = n
  have htk : ∀ v, taken sc tok v = ((n v : ℝ) : EReal) := fun v => by rw [taken_eq, ← hN]
  replace hn : ∀ v, #{k : Fin 8 | tok (σ (k.castLE (by norm_num))) = v} = n v := fun v => by rw [hn v, ← hN]
  generalize ht : (fun k : Fin 8 => tok (σ (k.castLE (by norm_num)))) = t
  replace hn : ∀ v, #{k | t k = v} = n v := fun v => by rw [← hn v, ← ht]
  have hL : ∀ v, tokenLogit q (s v) = (((∑ h, S v h * Q h) * (1 / 8) : ℝ) : EReal) := fun v => by
    unfold tokenLogit
    simp only [hS, hQ, ← EReal.coe_mul]
    rw [← coe_sum_real, eighth_eq, ← EReal.coe_mul]
  have hL' : ∀ v, positionLogit q (s v) = (((∑ h, S v h * Q h) * (1 / 8) : ℝ) : EReal) := fun v => by
    unfold positionLogit
    simp only [hS, hQ, ← EReal.coe_mul]
    rw [← coe_sum_real, slots_eq, div_real _ _ (by norm_num), mul_one_div]
  generalize hLL : (fun v => (∑ h, S v h * Q h) * (1 / 8)) = L at hL hL'
  replace hL : ∀ v, tokenLogit q (s v) = (L v : EReal) := fun v => by rw [hL v, ← hLL]
  replace hL' : ∀ v, positionLogit q (s v) = (L v : EReal) := fun v => by rw [hL' v, ← hLL]
  obtain ⟨m, hm⟩ : IsReal (peak fun u => if 0 < taken sc tok u then tokenLogit q (s u) else masked) :=
    peak_real _ fun u => by
      split
      · exact ⟨_, hL u⟩
      · exact masked_real
  obtain ⟨m', hm'⟩ : IsReal (peak fun i : Fin 8 => positionLogit q (s (t i))) := peak_real _ fun i => ⟨_, hL' _⟩
  have hpos : 0 < ∑ k' : Fin 8, Real.exp (L (t k') - m') :=
    Finset.sum_pos (fun k _ => Real.exp_pos _) ⟨0, Finset.mem_univ _⟩
  have hZ : (∑ u, (n u : ℝ) * Real.exp (L u - m)) ≠ 0 := by
    intro h0
    have h1 := sum_eq_histogram t fun v => Real.exp (L v - m)
    simp only [hn] at h1
    rw [h0] at h1
    exact (Finset.sum_pos (fun k _ => Real.exp_pos _) ⟨(0 : Fin 8), Finset.mem_univ _⟩).ne' h1
  show byToken s sc q Wo bo tok o = byPosition (fun k => s ((fun k : Fin 8 => tok (σ (k.castLE (by norm_num)))) k)) q Wo bo o
  rw [ht]
  unfold byToken byPosition
  rw [hm, hm']
  congr 1
  simp only [htk, hL, hL', weight_real, hS, hW, ← EReal.coe_mul, ← EReal.coe_sub, Ideal.exp_coe, ← coe_sum_real]
  simp only [div_real _ _ hZ, div_real _ _ hpos.ne', ← EReal.coe_mul, ← coe_sum_real]
  rw [mixture_eq t n hn L m m' S fun h => W h o]

end Cert.Ranked
-- ==== Proof.RefAnswer.lean ====
/- The reference's result is the answer by token rank, where the tokens are in range, the weights finite and the gate scores
   distinct. -/
module

public import proofs.«01_k».proof.Proof.RefTake
public import proofs.«01_k».proof.Proof.Algebra
public import Idealize.ShloMosaic.Lib.SortFacts

@[expose] public section

noncomputable section

namespace Cert.ReferenceIdeal.Read

open Cert.ReferenceIdeal Cert.ReferenceIdeal.Gen Idealize.ShloMosaic Cert.Ranked

/-- The ranked order visits every position once. -/
theorem ranked_bijective (s : Fin 200 → EReal) : Function.Bijective (ranked s) :=
  ⟨sortedFrom_injective _, sortedFrom_surjective _⟩

/-- The comparison the ranking sorts by says which value is greater. -/
theorem before_eq (s : Fin 200 → EReal) (p q : Fin 200) :
    (FloatOps.cmpfTotal (F := Ideal) (φ := .f32) .gt (s p) (s q) == 1#1) = decide (s q < s p) := by
  show (BitVec.ofBool (decide (s q < s p)) == 1#1) = _
  cases decide (s q < s p) <;> rfl

/-- Along the ranked order the values do not increase. -/
theorem ranked_ordered (s : Fin 200 → EReal) (i j : Fin 200) (h : i ≤ j) : s (ranked s j) ≤ s (ranked s i) := by
  rcases h.eq_or_lt with rfl | hlt
  · exact le_rfl
  · have := sortedFrom_noInversion (fun p q => FloatOps.cmpfTotal (F := Ideal) (φ := .f32) .gt (s p) (s q) == 1#1)
      (fun p q => FloatOps.cmpfTotal (F := Ideal) (φ := .f32) .gt (s p) (s q) == 1#1)
      (fun a b hab => by
        rw [before_eq, decide_eq_true_eq] at hab
        rw [before_eq, decide_eq_false_iff_not]
        exact not_lt.mpr hab.le)
      (fun _ _ h => h)
      (fun a b c hab hbc => by
        rw [before_eq, decide_eq_false_iff_not] at hab hbc ⊢
        exact not_lt.mpr ((not_lt.mp hab).trans (not_lt.mp hbc)))
      i j hlt
    rw [before_eq, decide_eq_false_iff_not] at this
    exact not_lt.mp this

variable (x0 : IVec S4096x200 32) (w : Weights) (r : Fin 4096) (tok : Fin 200 → Fin 64)
  (hx : ∀ l, x0 (ix2 r l) = BitVec.ofNat 32 (tok l).val)

include hx

/-- The state at position `l` is that of its token. -/
theorem state_at (l : Fin 200) (h : Fin 64) :
    val_main_v35 (F := Ideal) x0 w.embed w.W1 w.b1 w.W2 w.b2 w.gamma w.beta (ix3 r l h) = w.vocab (tok l) h := by
  rw [v35_apply]
  simp only [v0_apply x0 w.embed r l _ (tok l) (hx l)]
  rfl

/-- The gate score at position `l` is that of its token. -/
theorem gate_at (l : Fin 200) :
    val_main_v40 (F := Ideal) x0 w.embed w.W1 w.b1 w.W2 w.b2 w.gamma w.beta w.Wg w.bg (ix2 r l) = w.gate (tok l) := by
  rw [v40_apply]
  simp only [state_at x0 w r tok hx]
  rfl

/-- The query is that of the last position's token. -/
theorem ask_at (j : Fin 64) :
    val_main_v48 (F := Ideal) x0 w.embed w.W1 w.b1 w.W2 w.b2 w.gamma w.beta w.Wq w.bq (ix2 r j) = w.ask (tok 199) j := by
  rw [v48_apply]
  simp only [state_at x0 w r tok hx]
  rfl

/-- The reference's result at row `r` and output `o` is the row's answer. -/
theorem answer_apply (hga : ∀ h, IsReal (w.gamma (ix1 h))) (hbe : ∀ h, IsReal (w.beta (ix1 h)))
    (hWq : ∀ h j, IsReal (w.Wq (ix2 h j))) (hbq : ∀ j, IsReal (w.bq (ix1 j))) (hWo : ∀ h o, IsReal (w.Wo (ix2 h o)))
    (hgate : Function.Injective w.gate) (o : Fin 64) :
    val_main_v70 (F := Ideal) x0 w.embed w.W1 w.b1 w.W2 w.b2 w.gamma w.beta w.Wg w.bg w.Wq w.bq w.Wo w.bo (ix2 r o)
      = w.answer tok o := by
  have hs : ∀ v h, IsReal (w.vocab v h) := fun v h => state_real _ _ _ _ _ _ _ hga hbe h
  rw [v70_apply]
  simp only [v42_apply, state_at x0 w r tok hx, ask_at x0 w r tok hx]
  refine (byToken_eq_byPosition w.vocab w.gate (w.ask (tok 199)) w.readOut w.readOffset tok hs
    (query_real _ _ _ hWq hbq (hs _)) hWo hgate
    (place x0 w.embed w.W1 w.b1 w.W2 w.b2 w.gamma w.beta w.Wg w.bg r) (ranked_bijective _) ?_ o).symm
  intro i j hij
  have := ranked_ordered (fun p => val_main_v40 (F := Ideal) x0 w.embed w.W1 w.b1 w.W2 w.b2 w.gamma w.beta w.Wg w.bg (ix2 r p)) i j hij
  simp only [gate_at x0 w r tok hx] at this
  unfold place
  simp only [gate_at x0 w r tok hx]
  exact this

end Cert.ReferenceIdeal.Read
-- ==== Proof.Precondition.lean ====
/- The precondition read: the words are tokens, the five weights it names are finite, and the gate scores are distinct. -/
module

public import proofs.«01_k».proof.Proof.Gen.Pre_tokens_ranked
public import proofs.«01_k».proof.Proof.Finite
public import proofs.«01_k».proof.Proof.Answer
public import Idealize.ShloMosaic.Lib.WordCmp

@[expose] public section

noncomputable section

namespace Cert.Pre_tokens_ranked

open Idealize.ShloMosaic Cert.Ranked Facts

/-- The residuals of the vocabulary, as the precondition's operations compute them. -/
def layer (x1 : FVec Ideal S64x64 .f32) (x2 : FVec Ideal S64x128 .f32) (x3 : FVec Ideal S128 .f32) (x4 : FVec Ideal S128x64 .f32)
    (x5 : FVec Ideal S64 .f32) : FVec Ideal S64x64 .f32 :=
  addf x1 (addf (Host.dotGeneral dot_S64x128_S128x64_S64x64_1_0_0_1_n_n none
      (maximumf (addf (Host.dotGeneral dot_S64x64_S64x128_S64x128_1_0_0_1_n_n none x1 x2)
          (broadcastInDim S64x128 ![0, 1] bcast_S1x128_S64x128_0_1 (broadcastInDim S1x128 ![1] bcast_S128_S1x128_1 x3)))
        (broadcastInDim S64x128 ![] bcast_S_S64x128 (constant S_ .f32 0x00000000#32))) x4)
    (broadcastInDim S64x64 ![0, 1] bcast_S1x64_S64x64_0_1 (broadcastInDim S1x64 ![1] bcast_S64_S1x64_1 x5)))

/-- The vocabulary's residuals at a coordinate. -/
theorem layer_apply (x1 : FVec Ideal S64x64 .f32) (x2 : FVec Ideal S64x128 .f32) (x3 : FVec Ideal S128 .f32)
    (x4 : FVec Ideal S128x64 .f32) (x5 : FVec Ideal S64 .f32) (v h : Fin 64) :
    layer x1 x2 x3 x4 x5 (ix2 v h)
      = resid (fun i j => x2 (ix2 i j)) (fun j => x3 (ix1 j)) (fun j h => x4 (ix2 j h)) (fun h => x5 (ix1 h))
          (fun i => x1 (ix2 v i)) h := by
  pointwise [layer]
  rfl

/-- The means of an array's rows. -/
def means (y : FVec Ideal S64x64 .f32) : FVec Ideal S64x1 .f32 :=
  Host.divf (broadcastInDim S64x1 ![0] bcast_S64_S64x1_0
      (Host.reduceAdd y (constant S_ .f32 0x00000000#32) reducesTo_S64x64_S64_d1 h_S_))
    (broadcastInDim S64x1 ![] bcast_S_S64x1 (constant S_ .f32 0x42800000#32))

/-- An array's rows less their means. -/
def centred (y : FVec Ideal S64x64 .f32) : FVec Ideal S64x64 .f32 :=
  subf y (broadcastInDim S64x64 ![0, 1] bcast_S64x1_S64x64_0_1 (means y))

/-- An array's rows normalised, scaled and offset. -/
def normal (y : FVec Ideal S64x64 .f32) (x6 x7 : FVec Ideal S64 .f32) : FVec Ideal S64x64 .f32 :=
  addf (mulf (Host.divf (centred y) (broadcastInDim S64x64 ![0, 1] bcast_S64x1_S64x64_0_1
      (Host.sqrt (addf (means (mulf (centred y) (centred y)))
        (broadcastInDim S64x1 ![] bcast_S_S64x1 (constant S_ .f32 0x3727C5AC#32))))))
    (broadcastInDim S64x64 ![0, 1] bcast_S1x64_S64x64_0_1 (broadcastInDim S1x64 ![1] bcast_S64_S1x64_1 x6)))
    (broadcastInDim S64x64 ![0, 1] bcast_S1x64_S64x64_0_1 (broadcastInDim S1x64 ![1] bcast_S64_S1x64_1 x7))

/-- A row's mean. -/
theorem means_apply (y : FVec Ideal S64x64 .f32) (v : Fin 64) : means y (ix2 v 0) = mean fun k => y (ix2 v k) := by
  pointwise [means]
  rfl

/-- A deviation from the mean. -/
theorem centred_apply (y : FVec Ideal S64x64 .f32) (v h : Fin 64) :
    centred y (ix2 v h) = y (ix2 v h) - mean fun k => y (ix2 v k) := by
  pointwise [centred]
  rw [means_apply]

/-- A normalised, scaled and offset entry. -/
theorem normal_apply (y : FVec Ideal S64x64 .f32) (x6 x7 : FVec Ideal S64 .f32) (v h : Fin 64) :
    normal y x6 x7 (ix2 v h) = unit (fun k => y (ix2 v k)) h * x6 (ix1 h) + x7 (ix1 h) := by
  pointwise [normal]
  rw [means_apply]
  pointwise []
  simp only [centred_apply]
  rfl

/-- The gate scores of the rows of an array of states. -/
def scores (s : FVec Ideal S64x64 .f32) (x8 : FVec Ideal S64x1 .f32) (x9 : FVec Ideal S1 .f32) : FVec Ideal S64x1 .f32 :=
  addf (Host.dotGeneral dot_S64x64_S64x1_S64x1_1_0_0_1_n_n none s x8)
    (broadcastInDim S64x1 ![0, 1] bcast_S1x1_S64x1_0_1 (broadcastInDim S1x1 ![1] bcast_S1_S1x1_1 x9))

/-- A gate score. -/
theorem scores_apply (s : FVec Ideal S64x64 .f32) (x8 : FVec Ideal S64x1 .f32) (x9 : FVec Ideal S1 .f32) (v : Fin 64) :
    scores s x8 x9 (ix2 v 0) = score (fun h => x8 (ix2 h 0)) (x9 (ix1 0)) (fun h => s (ix2 v h)) := by
  pointwise [scores]
  rfl

/-- Which pairs are one token, or have different scores. -/
def untied (g : FVec Ideal S64x1 .f32) : IVec S64x64 1 :=
  ori (noti (cmpf .oeq (broadcastInDim S64x64 ![0, 1] bcast_S64x1_S64x64_0_1 g)
      (broadcastInDim S64x64 ![0, 1] bcast_S1x64_S64x64_0_1 (shapeCast S1x64 g shapeCasts_S64x1_S1x64))))
    (cmpi .eq (iotaInDim S64x64 32 0) (iotaInDim S64x64 32 1))

/-- The pair `(u, v)` of `untied`. -/
theorem untied_apply (g : FVec Ideal S64x1 .f32) (u v : Fin 64) :
    untied g (ix2 u v) = IntOp.ori (~~~ (FloatOps.cmpf (F := Ideal) (φ := .f32) .oeq (g (ix2 u 0)) (g (ix2 v 0))))
      (IntOp.cmpi .eq (BitVec.ofNat 32 u.val) (BitVec.ofNat 32 v.val)) := by
  pointwise [untied]

/-- The word of positive infinity. -/
theorem ofBits_inf : Ideal.ofBits .f32 0x7F800000#32 = ⊤ := by
  simp [Ideal.ofBits, Ideal.ieee]

/-- A value whose magnitude is below infinity is a real number. -/
theorem real_of_below (x : EReal) (h : FloatOps.cmpf (F := Ideal) (φ := .f32) .olt (FloatOps.absf (F := Ideal) (φ := .f32) x)
    (Ideal.ofBits .f32 0x7F800000#32) = 1#1) : IsReal x := by
  rw [ofBits_inf] at h
  have hlt : max x (-x) < ⊤ := by
    by_contra hn
    have h0 : BitVec.ofBool (decide (max x (-x) < ⊤)) = 1#1 := h
    rw [decide_eq_false hn] at h0
    exact absurd h0 (by decide)
  induction x with
  | bot => exact absurd hlt (by simp)
  | top => exact absurd hlt (by simp)
  | coe r => exact ⟨r, rfl⟩

/-- A word from 0 up to, but not including, 64 is a token's. -/
theorem token_of_range (x : BitVec 32)
    (h : IntOp.andi (IntOp.cmpi .sge x 0#32) (IntOp.cmpi .slt x 64#32) = 1#1) : ∃ v : Fin 64, x = BitVec.ofNat 32 v.val := by
  rw [Idealize.ShloMosaic.WordCmp.cmpi_sge_eq, Idealize.ShloMosaic.WordCmp.cmpi_slt_eq] at h
  have h0 : (0#32).toInt = 0 := by decide
  have h64 : (64#32).toInt = 64 := by decide
  rw [h0, h64] at h
  have hb : (0 ≤ x.toInt) ∧ x.toInt < 64 := by
    by_cases h1 : 0 ≤ x.toInt <;> by_cases h2 : x.toInt < 64
    · exact ⟨h1, h2⟩
    all_goals
      simp only [h1, h2] at h
      exact absurd h (by decide)
  have hn : x.toNat < 64 := by
    have := BitVec.toInt_eq_toNat_cond x
    have := x.isLt
    split at * <;> omega
  exact ⟨⟨x.toNat, hn⟩, by simp⟩

/-- Two tokens the precondition keeps apart have different scores, or are one token. -/
theorem apart (a b : EReal) (u v : Fin 64)
    (h : IntOp.ori (~~~ (FloatOps.cmpf (F := Ideal) (φ := .f32) .oeq a b))
      (IntOp.cmpi .eq (BitVec.ofNat 32 u.val) (BitVec.ofNat 32 v.val)) = 1#1) (hab : a = b) : u = v := by
  have h0 : FloatOps.cmpf (F := Ideal) (φ := .f32) .oeq a b = 1#1 := by
    show BitVec.ofBool (decide (a = b)) = 1#1
    rw [decide_eq_true hab]
    rfl
  rw [h0, Idealize.ShloMosaic.WordCmp.cmpi_eq_eq] at h
  by_contra huv
  have hw : ¬ BitVec.ofNat 32 u.val = BitVec.ofNat 32 v.val := by
    intro e
    have := congrArg BitVec.toNat e
    simp only [BitVec.toNat_ofNat] at this
    rw [Nat.mod_eq_of_lt (by omega), Nat.mod_eq_of_lt (by omega)] at this
    exact huv (Fin.ext this)
  rw [decide_eq_false hw] at h
  exact absurd h (by decide)

variable (x0 : IVec S4096x200 32) (w : Weights)

/-- The precondition's seven arrays at tokens and weights. -/
def arrays := fn (F := Ideal) x0 w.embed w.W1 w.b1 w.W2 w.b2 w.gamma w.beta w.Wg w.bg w.Wq w.bq w.Wo w.bo

/-- The last array compares the gate scores of the vocabulary's states. -/
theorem untied_eq : (arrays x0 w).2.2.2.2.2.2
    = untied (scores (normal (layer w.embed w.W1 w.b1 w.W2 w.b2) w.gamma w.beta) w.Wg w.bg) := rfl

/-- The compared scores are the tokens' gate scores. -/
theorem gate_eq (v : Fin 64) :
    scores (normal (layer w.embed w.W1 w.b1 w.W2 w.b2) w.gamma w.beta) w.Wg w.bg (ix2 v 0) = w.gate v := by
  rw [scores_apply]
  simp only [normal_apply, layer_apply]
  rfl

/-- What the precondition says: every word is a token's; scale, offset, query and read-out weights are real numbers; no two
    tokens have one gate score. -/
theorem decoded (h : (arrays x0 w).1 = (fun _ => 1#1) ∧ (arrays x0 w).2.1 = (fun _ => 1#1)
      ∧ (arrays x0 w).2.2.1 = (fun _ => 1#1) ∧ (arrays x0 w).2.2.2.1 = (fun _ => 1#1)
      ∧ (arrays x0 w).2.2.2.2.1 = (fun _ => 1#1) ∧ (arrays x0 w).2.2.2.2.2.1 = (fun _ => 1#1)
      ∧ (arrays x0 w).2.2.2.2.2.2 = (fun _ => 1#1)) :
    (∀ r : Fin 4096, ∃ tok : Fin 200 → Fin 64, ∀ l, x0 (ix2 r l) = BitVec.ofNat 32 (tok l).val)
      ∧ (∀ h, IsReal (w.gamma (ix1 h))) ∧ (∀ h, IsReal (w.beta (ix1 h))) ∧ (∀ h j, IsReal (w.Wq (ix2 h j)))
      ∧ (∀ j, IsReal (w.bq (ix1 j))) ∧ (∀ h o, IsReal (w.Wo (ix2 h o))) ∧ Function.Injective w.gate := by
  obtain ⟨h0, h1, h2, h3, h4, h5, h6⟩ := h
  refine ⟨fun r => ?_, fun h => real_of_below _ (congrFun h1 (ix1 h)), fun h => real_of_below _ (congrFun h2 (ix1 h)),
    fun h j => real_of_below _ (congrFun h3 (ix2 h j)), fun j => real_of_below _ (congrFun h4 (ix1 j)),
    fun h o => real_of_below _ (congrFun h5 (ix2 h o)), fun u v huv => ?_⟩
  · exact ⟨fun l => (token_of_range _ (congrFun h0 (ix2 r l))).choose,
      fun l => (token_of_range _ (congrFun h0 (ix2 r l))).choose_spec⟩
  · have := congrFun h6 (ix2 u v)
    rw [untied_eq, untied_apply, gate_eq, gate_eq] at this
    exact apart _ _ u v this huv

end Cert.Pre_tokens_ranked
-- ==== Proof.Claims.lean ====
/- The claims: both kernels and the reference run and keep their arguments, and the kernel's result is the reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelValue
public import proofs.«01_k».proof.Proof.RefAnswer
public import proofs.«01_k».proof.Proof.Precondition

@[expose] public section

noncomputable section

open Idealize.ShloMosaic Idealize.ShloMosaic.TcCoe Idealize.SL.Sem Cert.Ranked

namespace Cert.Proof

/-- The kernel runs and keeps its arguments, over the hardware's values. -/
theorem frame_kernel : Cert.quiescent_Kernel := fun m ρ _ => Cert.Kernel.Gen.frame m ρ

/-- The kernel runs and keeps its arguments, over the extended reals. -/
theorem frame_ideal : Cert.quiescent_KernelIdeal := fun m ρ _ => Cert.KernelIdeal.Gen.frame m ρ

/-- The same from memories of the precondition. -/
theorem frame_ideal_pre : Cert.quiescent_KernelIdeal_pre_tokens_ranked := fun m ρ _ => Cert.KernelIdeal.Gen.frame m ρ

/-- The reference runs and keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories of the precondition. -/
theorem frame_reference_pre : Cert.quiescent_ReferenceIdeal_pre_tokens_ranked := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments of the precondition, the reference's result term is the kernel's result array. -/
theorem results_equal (m : (ℓ : Loc Cert.KernelIdeal.nD Cert.KernelIdeal.τ Cert.KernelIdeal.sig) → Buf (Elt Ideal) ℓ)
    (c : Dev Cert.KernelIdeal.nD) (hpre : Cert.Pre_KernelIdeal_tokens_ranked m) :
    Cert.ReferenceIdeal.Read.val_main_v70 (F := Ideal)
        (m ((c : Thread Cert.KernelIdeal.nD Cert.KernelIdeal.τ).loc Cert.KernelIdeal.main_arg0))
        (Cert.KernelIdeal.Read.weights m c).embed (Cert.KernelIdeal.Read.weights m c).W1 (Cert.KernelIdeal.Read.weights m c).b1
        (Cert.KernelIdeal.Read.weights m c).W2 (Cert.KernelIdeal.Read.weights m c).b2 (Cert.KernelIdeal.Read.weights m c).gamma
        (Cert.KernelIdeal.Read.weights m c).beta (Cert.KernelIdeal.Read.weights m c).Wg (Cert.KernelIdeal.Read.weights m c).bg
        (Cert.KernelIdeal.Read.weights m c).Wq (Cert.KernelIdeal.Read.weights m c).bq (Cert.KernelIdeal.Read.weights m c).Wo
        (Cert.KernelIdeal.Read.weights m c).bo
      = (Cert.KernelIdeal.Gen.dats m 0 c).arrAt 14 Cert.KernelIdeal.cfg0.N := by
  obtain ⟨htok, hga, hbe, hWq, hbq, hWo, hgate⟩ := Cert.Pre_tokens_ranked.decoded
    (m ((c : Thread Cert.KernelIdeal.nD Cert.KernelIdeal.τ).loc Cert.KernelIdeal.main_arg0)) (Cert.KernelIdeal.Read.weights m c) (hpre c)
  funext i
  obtain ⟨r, o, rfl⟩ : ∃ (r : Fin 4096) (o : Fin 64), i = ix2 r o := ⟨i 0, i 1, eq_ix2 i⟩
  obtain ⟨tok, hx⟩ := htok r
  obtain ⟨t, b, rfl⟩ := Cert.KernelIdeal.Read.exists_row r
  exact (Cert.ReferenceIdeal.Read.answer_apply _ (Cert.KernelIdeal.Read.weights m c) _ tok hx hga hbe hWq hbq hWo hgate o).trans
    (Cert.KernelIdeal.Read.result_apply m c t b o tok hx).symm

set_option maxRecDepth 8192 in
/-- The kernel and the reference, from one tuple of arguments of the precondition, end with equal results. -/
theorem value : Cert.algebraic_KernelIdeal_ReferenceIdeal_pre_tokens_ranked := by
  intro m g m' g' hpre hargs
  refine ⟨fun c => (Cert.KernelIdeal.Gen.dats m 0 c).arrAt 14 Cert.KernelIdeal.cfg0.N,
    Cert.KernelIdeal.Value.run_blocks m g, ?_⟩
  refine (θ_run Cert.ReferenceIdeal.defs _ _).mono (fun r h c => ⟨?_, (h c).2⟩) (Cert.ReferenceIdeal.Value.run (F := Ideal) m' g')
  obtain ⟨e0, e1, e2, e3, e4, e5, e6, e7, e8, e9, e10, e11, e12, e13⟩ := hargs c
  refine ((h c).1.trans (Cert.ReferenceIdeal.Read.val_main_v70_eq (StableHlo.launchContents m' c))).trans ?_
  refine Eq.trans ?_ (results_equal m c hpre)
  show Cert.ReferenceIdeal.Read.val_main_v70 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13)) = _
  rw [e0, e1, e2, e3, e4, e5, e6, e7, e8, e9, e10, e11, e12, e13]
  rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tokens_ranked
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_tokens_ranked.Gen.facts,
    frame_kernel, frame_ideal, frame_ideal_pre, frame_reference, frame_reference_pre, trivial, value⟩

end Cert.Proof

end
